-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.BufferStatement Cert.KernelIdeal.S16x2x512 Cert.KernelIdeal.S16x1x512
  ∧ IdealRules.bf16_pair.PackStatement Cert.KernelIdeal.S16x512
  ∧ IdealRules.bf16_pair.Statement Cert.KernelIdeal.S16x2x512 Cert.KernelIdeal.S16x1x512
  ∧ IdealRules.bf16_pair.Statement Cert.KernelIdeal.S1x2x512 Cert.KernelIdeal.S1x1x512
  ∧ IdealRules.bf16_pair.Statement Cert.KernelIdeal.S16x512 Cert.KernelIdeal.S8x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v275) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x4096x7168 : Shape := ⟨3, ![3, 4096, 7168]⟩
abbrev S7168 : Shape := ⟨1, ![7168]⟩
abbrev S18432x28x32 : Shape := ⟨3, ![18432, 28, 32]⟩
abbrev S18432x28x64 : Shape := ⟨3, ![18432, 28, 64]⟩
abbrev S18432x28x12 : Shape := ⟨3, ![18432, 28, 12]⟩
abbrev S18432x28 : Shape := ⟨2, ![18432, 28]⟩
abbrev S12288x7168 : Shape := ⟨2, ![12288, 7168]⟩
abbrev S1x7168 : Shape := ⟨2, ![1, 7168]⟩
abbrev S3x28x4096 : Shape := ⟨3, ![3, 28, 4096]⟩
abbrev S256x7168 : Shape := ⟨2, ![256, 7168]⟩
abbrev S1x28x256 : Shape := ⟨3, ![1, 28, 256]⟩
abbrev S256x128 : Shape := ⟨2, ![256, 128]⟩
abbrev S32x256 : Shape := ⟨2, ![32, 256]⟩
abbrev S32 : Shape := ⟨1, ![32]⟩
abbrev S32x1 : Shape := ⟨2, ![32, 1]⟩
abbrev S32x128 : Shape := ⟨2, ![32, 128]⟩
abbrev S1x256 : Shape := ⟨2, ![1, 256]⟩
abbrev S128x256 : Shape := ⟨2, ![128, 256]⟩
abbrev S28x256 : Shape := ⟨2, ![28, 256]⟩
abbrev S28x64x18432 : Shape := ⟨3, ![28, 64, 18432]⟩
abbrev S28x32x18432 : Shape := ⟨3, ![28, 32, 18432]⟩
abbrev S28x12x18432 : Shape := ⟨3, ![28, 12, 18432]⟩
abbrev S28x18432 : Shape := ⟨2, ![28, 18432]⟩
abbrev S12288x18432 : Shape := ⟨2, ![12288, 18432]⟩
abbrev S1024x7168 : Shape := ⟨2, ![1024, 7168]⟩
abbrev S28x64x512 : Shape := ⟨3, ![28, 64, 512]⟩
abbrev S28x32x512 : Shape := ⟨3, ![28, 32, 512]⟩
abbrev S28x12x512 : Shape := ⟨3, ![28, 12, 512]⟩
abbrev S28x512 : Shape := ⟨2, ![28, 512]⟩
abbrev S1024x512 : Shape := ⟨2, ![1024, 512]⟩
abbrev S7168x512 : Shape := ⟨2, ![7168, 512]⟩
abbrev S16x512 : Shape := ⟨2, ![16, 512]⟩
abbrev S1x12x512 : Shape := ⟨3, ![1, 12, 512]⟩
abbrev S12x512 : Shape := ⟨2, ![12, 512]⟩
abbrev S1x512 : Shape := ⟨2, ![1, 512]⟩
abbrev S8x512 : Shape := ⟨2, ![8, 512]⟩
abbrev S4x512 : Shape := ⟨2, ![4, 512]⟩
abbrev S1x32x512 : Shape := ⟨3, ![1, 32, 512]⟩
abbrev S32x512 : Shape := ⟨2, ![32, 512]⟩
abbrev S3x4096x18432 : Shape := ⟨3, ![3, 4096, 18432]⟩
abbrev S3x4096x28 : Shape := ⟨3, ![3, 4096, 28]⟩

abbrev nBuf : Space → Nat
  | .hbm => 19
  | .vmem => 24
  | .smem => 0
  | _ => 0

abbrev bufTy : (tb : Table) → Fin (tcTables nBuf tb) → BufTy
  | .hbm, ⟨0, _⟩ => ⟨S3x4096x7168, .bf16⟩
  | .hbm, ⟨1, _⟩ => ⟨S7168, .f32⟩
  | .hbm, ⟨2, _⟩ => ⟨S18432x28x32, .i8⟩
  | .hbm, ⟨3, _⟩ => ⟨S18432x28x64, .i8⟩
  | .hbm, ⟨4, _⟩ => ⟨S18432x28x12, .i8⟩
  | .hbm, ⟨5, _⟩ => ⟨S18432x28, .f32⟩
  | .hbm, ⟨6, _⟩ => ⟨S12288x7168, .bf16⟩
  | .hbm, ⟨7, _⟩ => ⟨S1x7168, .f32⟩
  | .hbm, ⟨8, _⟩ => ⟨S12288x7168, .i8⟩
  | .hbm, ⟨9, _⟩ => ⟨S3x28x4096, .f32⟩
  | .hbm, ⟨10, _⟩ => ⟨S12288x7168, .bf16⟩
  | .hbm, ⟨11, _⟩ => ⟨S28x64x18432, .i8⟩
  | .hbm, ⟨12, _⟩ => ⟨S28x32x18432, .i8⟩
  | .hbm, ⟨13, _⟩ => ⟨S28x12x18432, .i8⟩
  | .hbm, ⟨14, _⟩ => ⟨S28x18432, .f32⟩
  | .hbm, ⟨15, _⟩ => ⟨S12288x18432, .bf16⟩
  | .hbm, ⟨16, _⟩ => ⟨S3x4096x18432, .bf16⟩
  | .hbm, ⟨17, _⟩ => ⟨S3x4096x7168, .i8⟩
  | .hbm, ⟨18, _⟩ => ⟨S3x4096x28, .f32⟩
  | .local _ .vmem, ⟨0, _⟩ => ⟨S256x7168, .bf16⟩
  | .local _ .vmem, ⟨1, _⟩ => ⟨S256x7168, .bf16⟩
  | .local _ .vmem, ⟨2, _⟩ => ⟨S1x7168, .f32⟩
  | .local _ .vmem, ⟨3, _⟩ => ⟨S256x7168, .i8⟩
  | .local _ .vmem, ⟨4, _⟩ => ⟨S256x7168, .i8⟩
  | .local _ .vmem, ⟨5, _⟩ => ⟨S1x28x256, .f32⟩
  | .local _ .vmem, ⟨6, _⟩ => ⟨S1x28x256, .f32⟩
  | .local _ .vmem, ⟨7, _⟩ => ⟨S256x7168, .bf16⟩
  | .local _ .vmem, ⟨8, _⟩ => ⟨S256x7168, .bf16⟩
  | .local _ .vmem, ⟨9, _⟩ => ⟨S256x128, .f32⟩
  | .local _ .vmem, ⟨10, _⟩ => ⟨S1024x7168, .bf16⟩
  | .local _ .vmem, ⟨11, _⟩ => ⟨S1024x7168, .bf16⟩
  | .local _ .vmem, ⟨12, _⟩ => ⟨S28x64x512, .i8⟩
  | .local _ .vmem, ⟨13, _⟩ => ⟨S28x64x512, .i8⟩
  | .local _ .vmem, ⟨14, _⟩ => ⟨S28x32x512, .i8⟩
  | .local _ .vmem, ⟨15, _⟩ => ⟨S28x32x512, .i8⟩
  | .local _ .vmem, ⟨16, _⟩ => ⟨S28x12x512, .i8⟩
  | .local _ .vmem, ⟨17, _⟩ => ⟨S28x12x512, .i8⟩
  | .local _ .vmem, ⟨18, _⟩ => ⟨S28x512, .f32⟩
  | .local _ .vmem, ⟨19, _⟩ => ⟨S28x512, .f32⟩
  | .local _ .vmem, ⟨20, _⟩ => ⟨S1024x512, .bf16⟩
  | .local _ .vmem, ⟨21, _⟩ => ⟨S1024x512, .bf16⟩
  | .local _ .vmem, ⟨22, _⟩ => ⟨S7168x512, .bf16⟩
  | .local _ .vmem, ⟨23, _⟩ => ⟨S16x512, .i32⟩
  | _, _ => ⟨S3x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [BitOps F]

abbrev grid0 : Pipeline.Grid := ⟨1, ![48], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  v9
def k0_off1 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v12 : Index := Scalar.indexCast v10
  let c0_7 : Index := 0#32
  ![v12.toNat, 0]
def k0_off2 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v18 : Index := Scalar.indexCast v10
  let c256 : Index := 256#32
  ![v18.toNat, 256]
def k0_off3 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v24 : Index := Scalar.indexCast v10
  let c512 : Index := 512#32
  ![v24.toNat, 512]
def k0_off4 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v30 : Index := Scalar.indexCast v10
  let c768 : Index := 768#32
  ![v30.toNat, 768]
def k0_off5 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v36 : Index := Scalar.indexCast v10
  let c1024 : Index := 1024#32
  ![v36.toNat, 1024]
def k0_off6 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v42 : Index := Scalar.indexCast v10
  let c1280 : Index := 1280#32
  ![v42.toNat, 1280]
def k0_off7 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v48 : Index := Scalar.indexCast v10
  let c1536 : Index := 1536#32
  ![v48.toNat, 1536]
def k0_off8 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v54 : Index := Scalar.indexCast v10
  let c1792 : Index := 1792#32
  ![v54.toNat, 1792]
def k0_off9 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v60 : Index := Scalar.indexCast v10
  let c2048 : Index := 2048#32
  ![v60.toNat, 2048]
def k0_off10 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v66 : Index := Scalar.indexCast v10
  let c2304 : Index := 2304#32
  ![v66.toNat, 2304]
def k0_off11 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v72 : Index := Scalar.indexCast v10
  let c2560 : Index := 2560#32
  ![v72.toNat, 2560]
def k0_off12 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v78 : Index := Scalar.indexCast v10
  let c2816 : Index := 2816#32
  ![v78.toNat, 2816]
def k0_off13 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v84 : Index := Scalar.indexCast v10
  let c3072 : Index := 3072#32
  ![v84.toNat, 3072]
def k0_off14 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v90 : Index := Scalar.indexCast v10
  let c3328 : Index := 3328#32
  ![v90.toNat, 3328]
def k0_off15 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v96 : Index := Scalar.indexCast v10
  let c3584 : Index := 3584#32
  ![v96.toNat, 3584]
def k0_off16 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v102 : Index := Scalar.indexCast v10
  let c3840 : Index := 3840#32
  ![v102.toNat, 3840]
def k0_off17 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v108 : Index := Scalar.indexCast v10
  let c4096 : Index := 4096#32
  ![v108.toNat, 4096]
def k0_off18 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v114 : Index := Scalar.indexCast v10
  let c4352 : Index := 4352#32
  ![v114.toNat, 4352]
def k0_off19 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v120 : Index := Scalar.indexCast v10
  let c4608 : Index := 4608#32
  ![v120.toNat, 4608]
def k0_off20 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v126 : Index := Scalar.indexCast v10
  let c4864 : Index := 4864#32
  ![v126.toNat, 4864]
def k0_off21 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v132 : Index := Scalar.indexCast v10
  let c5120 : Index := 5120#32
  ![v132.toNat, 5120]
def k0_off22 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v138 : Index := Scalar.indexCast v10
  let c5376 : Index := 5376#32
  ![v138.toNat, 5376]
def k0_off23 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v144 : Index := Scalar.indexCast v10
  let c5632 : Index := 5632#32
  ![v144.toNat, 5632]
def k0_off24 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v150 : Index := Scalar.indexCast v10
  let c5888 : Index := 5888#32
  ![v150.toNat, 5888]
def k0_off25 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v156 : Index := Scalar.indexCast v10
  let c6144 : Index := 6144#32
  ![v156.toNat, 6144]
def k0_off26 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v162 : Index := Scalar.indexCast v10
  let c6400 : Index := 6400#32
  ![v162.toNat, 6400]
def k0_off27 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v168 : Index := Scalar.indexCast v10
  let c6656 : Index := 6656#32
  ![v168.toNat, 6656]
def k0_off28 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v174 : Index := Scalar.indexCast v10
  let c6912 : Index := 6912#32
  ![v174.toNat, 6912]
def k0_off29 (k0_t1 : Fin k0_t1_loop.trips) : Fin 2 → Nat :=
  let c0_i32_6 : BitVec 32 := 0#32
  let c0_i32 : BitVec 32 := 0#32
  let c1_i32 : BitVec 32 := 1#32
  let arg7 : BitVec 32 := Scf.iv c0_i32 c1_i32 k0_t1
  let c1_i32_5 : BitVec 32 := 1#32
  let v7 : BitVec 32 := Scalar.muli arg7 c1_i32_5
  let v8 : BitVec 32 := Scalar.addi c0_i32_6 v7
  let c32_i32 : BitVec 32 := 32#32
  let v9 : BitVec 32 := Scalar.muli v8 c32_i32
  let v10 : BitVec 32 := v9
  let v1309 : Index := Scalar.indexCast v10
  let c0_323 : Index := 0#32
  ![v1309.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x7168 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x28x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![36, 12], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k1_t1_loop : Scf.Loop 32 :=
  let c0_i32_6 : BitVec 32 := 0#32
  let c28_i32 : BitVec 32 := 28#32
  let v9 : BitVec 32 := Scalar.addi c0_i32_6 c28_i32
  let c1_i32 : BitVec 32 := 1#32
  ⟨c0_i32_6, v9, c1_i32⟩
def k1_off1 (k1_t1 : Fin k1_t1_loop.trips) : Fin 3 → Nat :=
  let c0_i32_9 : BitVec 32 := 0#32
  let c0_i32_6 : BitVec 32 := 0#32
  let c1_i32 : BitVec 32 := 1#32
  let arg10 : BitVec 32 := Scf.iv c0_i32_6 c1_i32 k1_t1
  let c1_i32_8 : BitVec 32 := 1#32
  let v10 : BitVec 32 := Scalar.muli arg10 c1_i32_8
  let v11 : BitVec 32 := Scalar.addi c0_i32_9 v10
  let v12 : Index := Scalar.indexCast v11
  let c0_10 : Index := 0#32
  let c0_11 : Index := 0#32
  ![v12.toNat, 0, 0]
def k1_off2 (k1_t1 : Fin k1_t1_loop.trips) : Fin 2 → Nat :=
  let c0_i32_9 : BitVec 32 := 0#32
  let c0_i32_6 : BitVec 32 := 0#32
  let c1_i32 : BitVec 32 := 1#32
  let arg10 : BitVec 32 := Scf.iv c0_i32_6 c1_i32 k1_t1
  let c1_i32_8 : BitVec 32 := 1#32
  let v10 : BitVec 32 := Scalar.muli arg10 c1_i32_8
  let v11 : BitVec 32 := Scalar.addi c0_i32_9 v10
  let v16 : Index := Scalar.indexCast v11
  let c0_12 : Index := 0#32
  ![v16.toNat, 0]
def k1_off3 (k1_t1 : Fin k1_t1_loop.trips) : Fin 3 → Nat :=
  let c0_i32_9 : BitVec 32 := 0#32
  let c0_i32_6 : BitVec 32 := 0#32
  let c1_i32 : BitVec 32 := 1#32
  let arg10 : BitVec 32 := Scf.iv c0_i32_6 c1_i32 k1_t1
  let c1_i32_8 : BitVec 32 := 1#32
  let v10 : BitVec 32 := Scalar.muli arg10 c1_i32_8
  let v11 : BitVec 32 := Scalar.addi c0_i32_9 v10
  let v61 : Index := Scalar.indexCast v11
  let c0_23 : Index := 0#32
  let c0_24 : Index := 0#32
  ![v61.toNat, 0, 0]
def k1_off4 (k1_t1 : Fin k1_t1_loop.trips) : Fin 3 → Nat :=
  let c0_i32_9 : BitVec 32 := 0#32
  let c0_i32_6 : BitVec 32 := 0#32
  let c1_i32 : BitVec 32 := 1#32
  let arg10 : BitVec 32 := Scf.iv c0_i32_6 c1_i32 k1_t1
  let c1_i32_8 : BitVec 32 := 1#32
  let v10 : BitVec 32 := Scalar.muli arg10 c1_i32_8
  let v11 : BitVec 32 := Scalar.addi c0_i32_9 v10
  let v66 : Index := Scalar.indexCast v11
  let c0_26 : Index := 0#32
  let c0_27 : Index := 0#32
  ![v66.toNat, 0, 0]
def k1_mult1 (k1_t1 : Fin k1_t1_loop.trips) : BitVec 32 :=
  let c0_i32_9 : BitVec 32 := 0#32
  let c0_i32_6 : BitVec 32 := 0#32
  let c1_i32 : BitVec 32 := 1#32
  let arg10 : BitVec 32 := Scf.iv c0_i32_6 c1_i32 k1_t1
  let c1_i32_8 : BitVec 32 := 1#32
  let v10 : BitVec 32 := Scalar.muli arg10 c1_i32_8
  let v11 : BitVec 32 := Scalar.addi c0_i32_9 v10
  let c256_i32 : BitVec 32 := 256#32
  let v84 : BitVec 32 := Scalar.muli v11 c256_i32
  let c0_i32_30 : BitVec 32 := 0#32
  let v85 : BitVec 32 := Scalar.addi v84 c0_i32_30
  v85
def k1_off5 (k1_t1 : Fin k1_t1_loop.trips) (c0_i32_30 : BitVec 32) : Fin 2 → Nat :=
  let c0_i32_9 : BitVec 32 := 0#32
  let c0_i32_6 : BitVec 32 := 0#32
  let c1_i32 : BitVec 32 := 1#32
  let arg10 : BitVec 32 := Scf.iv c0_i32_6 c1_i32 k1_t1
  let c1_i32_8 : BitVec 32 := 1#32
  let v10 : BitVec 32 := Scalar.muli arg10 c1_i32_8
  let v11 : BitVec 32 := Scalar.addi c0_i32_9 v10
  let c256_i32 : BitVec 32 := 256#32
  let v84 : BitVec 32 := Scalar.muli v11 c256_i32
  let v85 : BitVec 32 := Scalar.addi v84 c0_i32_30
  let v86 : BitVec 32 := v85
  let v89 : Index := Scalar.indexCast v86
  let c0_31 : Index := 0#32
  ![v89.toNat, 0]
def k1_mult2 (k1_t1 : Fin k1_t1_loop.trips) : BitVec 32 :=
  let c0_i32_9 : BitVec 32 := 0#32
  let c0_i32_6 : BitVec 32 := 0#32
  let c1_i32 : BitVec 32 := 1#32
  let arg10 : BitVec 32 := Scf.iv c0_i32_6 c1_i32 k1_t1
  let c1_i32_8 : BitVec 32 := 1#32
  let v10 : BitVec 32 := Scalar.muli arg10 c1_i32_8
  let v11 : BitVec 32 := Scalar.addi c0_i32_9 v10
  let c256_i32_33 : BitVec 32 := 256#32
  let v96 : BitVec 32 := Scalar.muli v11 c256_i32_33
  let c16_i32 : BitVec 32 := 16#32
  let v97 : BitVec 32 := Scalar.addi v96 c16_i32
  v97
def k1_mult3 (k1_t1 : Fin k1_t1_loop.trips) : BitVec 32 :=
  let c0_i32_9 : BitVec 32 := 0#32
  let c0_i32_6 : BitVec 32 := 0#32
  let c1_i32 : BitVec 32 := 1#32
  let arg10 : BitVec 32 := Scf.iv c0_i32_6 c1_i32 k1_t1
  let c1_i32_8 : BitVec 32 := 1#32
  let v10 : BitVec 32 := Scalar.muli arg10 c1_i32_8
  let v11 : BitVec 32 := Scalar.addi c0_i32_9 v10
  let c256_i32_40 : BitVec 32 := 256#32
  let v119 : BitVec 32 := Scalar.muli v11 c256_i32_40
  let c32_i32_41 : BitVec 32 := 32#32
  let v120 : BitVec 32 := Scalar.addi v119 c32_i32_41
  v120
def k1_mult4 (k1_t1 : Fin k1_t1_loop.trips) : BitVec 32 :=
  let c0_i32_9 : BitVec 32 := 0#32
  let c0_i32_6 : BitVec 32 := 0#32
  let c1_i32 : BitVec 32 := 1#32
  let arg10 : BitVec 32 := Scf.iv c0_i32_6 c1_i32 k1_t1
  let c1_i32_8 : BitVec 32 := 1#32
  let v10 : BitVec 32 := Scalar.muli arg10 c1_i32_8
  let v11 : BitVec 32 := Scalar.addi c0_i32_9 v10
  let c256_i32_44 : BitVec 32 := 256#32
  let v131 : BitVec 32 := Scalar.muli v11 c256_i32_44
  let c48_i32 : BitVec 32 := 48#32
  let v132 : BitVec 32 := Scalar.addi v131 c48_i32
  v132
def k1_mult5 (k1_t1 : Fin k1_t1_loop.trips) : BitVec 32 :=
  let c0_i32_9 : BitVec 32 := 0#32
  let c0_i32_6 : BitVec 32 := 0#32
  let c1_i32 : BitVec 32 := 1#32
  let arg10 : BitVec 32 := Scf.iv c0_i32_6 c1_i32 k1_t1
  let c1_i32_8 : BitVec 32 := 1#32
  let v10 : BitVec 32 := Scalar.muli arg10 c1_i32_8
  let v11 : BitVec 32 := Scalar.addi c0_i32_9 v10
  let c256_i32_51 : BitVec 32 := 256#32
  let v154 : BitVec 32 := Scalar.muli v11 c256_i32_51
  let c64_i32 : BitVec 32 := 64#32
  let v155 : BitVec 32 := Scalar.addi v154 c64_i32
  v155
def k1_mult6 (k1_t1 : Fin k1_t1_loop.trips) : BitVec 32 :=
  let c0_i32_9 : BitVec 32 := 0#32
  let c0_i32_6 : BitVec 32 := 0#32
  let c1_i32 : BitVec 32 := 1#32
  let arg10 : BitVec 32 := Scf.iv c0_i32_6 c1_i32 k1_t1
  let c1_i32_8 : BitVec 32 := 1#32
  let v10 : BitVec 32 := Scalar.muli arg10 c1_i32_8
  let v11 : BitVec 32 := Scalar.addi c0_i32_9 v10
  let c256_i32_54 : BitVec 32 := 256#32
  let v166 : BitVec 32 := Scalar.muli v11 c256_i32_54
  let c80_i32 : BitVec 32 := 80#32
  let v167 : BitVec 32 := Scalar.addi v166 c80_i32
  v167
def k1_mult7 (k1_t1 : Fin k1_t1_loop.trips) : BitVec 32 :=
  let c0_i32_9 : BitVec 32 := 0#32
  let c0_i32_6 : BitVec 32 := 0#32
  let c1_i32 : BitVec 32 := 1#32
  let arg10 : BitVec 32 := Scf.iv c0_i32_6 c1_i32 k1_t1
  let c1_i32_8 : BitVec 32 := 1#32
  let v10 : BitVec 32 := Scalar.muli arg10 c1_i32_8
  let v11 : BitVec 32 := Scalar.addi c0_i32_9 v10
  let c256_i32_61 : BitVec 32 := 256#32
  let v189 : BitVec 32 := Scalar.muli v11 c256_i32_61
  let c96_i32 : BitVec 32 := 96#32
  let v190 : BitVec 32 := Scalar.addi v189 c96_i32
  v190
def k1_mult8 (k1_t1 : Fin k1_t1_loop.trips) : BitVec 32 :=
  let c0_i32_9 : BitVec 32 := 0#32
  let c0_i32_6 : BitVec 32 := 0#32
  let c1_i32 : BitVec 32 := 1#32
  let arg10 : BitVec 32 := Scf.iv c0_i32_6 c1_i32 k1_t1
  let c1_i32_8 : BitVec 32 := 1#32
  let v10 : BitVec 32 := Scalar.muli arg10 c1_i32_8
  let v11 : BitVec 32 := Scalar.addi c0_i32_9 v10
  let c256_i32_64 : BitVec 32 := 256#32
  let v201 : BitVec 32 := Scalar.muli v11 c256_i32_64
  let c112_i32 : BitVec 32 := 112#32
  let v202 : BitVec 32 := Scalar.addi v201 c112_i32
  v202
def k1_off6 (k1_t1 : Fin k1_t1_loop.trips) : Fin 3 → Nat :=
  let c0_i32_9 : BitVec 32 := 0#32
  let c0_i32_6 : BitVec 32 := 0#32
  let c1_i32 : BitVec 32 := 1#32
  let arg10 : BitVec 32 := Scf.iv c0_i32_6 c1_i32 k1_t1
  let c1_i32_8 : BitVec 32 := 1#32
  let v10 : BitVec 32 := Scalar.muli arg10 c1_i32_8
  let v11 : BitVec 32 := Scalar.addi c0_i32_9 v10
  let v210 : Index := Scalar.indexCast v11
  let c32 : Index := 32#32
  let c0_66 : Index := 0#32
  ![v210.toNat, 32, 0]
def k1_mult9 (k1_t1 : Fin k1_t1_loop.trips) : BitVec 32 :=
  let c0_i32_9 : BitVec 32 := 0#32
  let c0_i32_6 : BitVec 32 := 0#32
  let c1_i32 : BitVec 32 := 1#32
  let arg10 : BitVec 32 := Scf.iv c0_i32_6 c1_i32 k1_t1
  let c1_i32_8 : BitVec 32 := 1#32
  let v10 : BitVec 32 := Scalar.muli arg10 c1_i32_8
  let v11 : BitVec 32 := Scalar.addi c0_i32_9 v10
  let c256_i32_72 : BitVec 32 := 256#32
  let v228 : BitVec 32 := Scalar.muli v11 c256_i32_72
  let c128_i32 : BitVec 32 := 128#32
  let v229 : BitVec 32 := Scalar.addi v228 c128_i32
  v229
def k1_mult10 (k1_t1 : Fin k1_t1_loop.trips) : BitVec 32 :=
  let c0_i32_9 : BitVec 32 := 0#32
  let c0_i32_6 : BitVec 32 := 0#32
  let c1_i32 : BitVec 32 := 1#32
  let arg10 : BitVec 32 := Scf.iv c0_i32_6 c1_i32 k1_t1
  let c1_i32_8 : BitVec 32 := 1#32
  let v10 : BitVec 32 := Scalar.muli arg10 c1_i32_8
  let v11 : BitVec 32 := Scalar.addi c0_i32_9 v10
  let c256_i32_75 : BitVec 32 := 256#32
  let v240 : BitVec 32 := Scalar.muli v11 c256_i32_75
  let c144_i32 : BitVec 32 := 144#32
  let v241 : BitVec 32 := Scalar.addi v240 c144_i32
  v241
def k1_mult11 (k1_t1 : Fin k1_t1_loop.trips) : BitVec 32 :=
  let c0_i32_9 : BitVec 32 := 0#32
  let c0_i32_6 : BitVec 32 := 0#32
  let c1_i32 : BitVec 32 := 1#32
  let arg10 : BitVec 32 := Scf.iv c0_i32_6 c1_i32 k1_t1
  let c1_i32_8 : BitVec 32 := 1#32
  let v10 : BitVec 32 := Scalar.muli arg10 c1_i32_8
  let v11 : BitVec 32 := Scalar.addi c0_i32_9 v10
  let c256_i32_82 : BitVec 32 := 256#32
  let v263 : BitVec 32 := Scalar.muli v11 c256_i32_82
  let c160_i32 : BitVec 32 := 160#32
  let v264 : BitVec 32 := Scalar.addi v263 c160_i32
  v264
def k1_mult12 (k1_t1 : Fin k1_t1_loop.trips) : BitVec 32 :=
  let c0_i32_9 : BitVec 32 := 0#32
  let c0_i32_6 : BitVec 32 := 0#32
  let c1_i32 : BitVec 32 := 1#32
  let arg10 : BitVec 32 := Scf.iv c0_i32_6 c1_i32 k1_t1
  let c1_i32_8 : BitVec 32 := 1#32
  let v10 : BitVec 32 := Scalar.muli arg10 c1_i32_8
  let v11 : BitVec 32 := Scalar.addi c0_i32_9 v10
  let c256_i32_85 : BitVec 32 := 256#32
  let v275 : BitVec 32 := Scalar.muli v11 c256_i32_85
  let c176_i32 : BitVec 32 := 176#32
  let v276 : BitVec 32 := Scalar.addi v275 c176_i32
  v276
def k1_mult13 (k1_t1 : Fin k1_t1_loop.trips) : BitVec 32 :=
  let c0_i32_9 : BitVec 32 := 0#32
  let c0_i32_6 : BitVec 32 := 0#32
  let c1_i32 : BitVec 32 := 1#32
  let arg10 : BitVec 32 := Scf.iv c0_i32_6 c1_i32 k1_t1
  let c1_i32_8 : BitVec 32 := 1#32
  let v10 : BitVec 32 := Scalar.muli arg10 c1_i32_8
  let v11 : BitVec 32 := Scalar.addi c0_i32_9 v10
  let c256_i32_92 : BitVec 32 := 256#32
  let v298 : BitVec 32 := Scalar.muli v11 c256_i32_92
  let c192_i32 : BitVec 32 := 192#32
  let v299 : BitVec 32 := Scalar.addi v298 c192_i32
  v299
def k1_mult14 (k1_t1 : Fin k1_t1_loop.trips) : BitVec 32 :=
  let c0_i32_9 : BitVec 32 := 0#32
  let c0_i32_6 : BitVec 32 := 0#32
  let c1_i32 : BitVec 32 := 1#32
  let arg10 : BitVec 32 := Scf.iv c0_i32_6 c1_i32 k1_t1
  let c1_i32_8 : BitVec 32 := 1#32
  let v10 : BitVec 32 := Scalar.muli arg10 c1_i32_8
  let v11 : BitVec 32 := Scalar.addi c0_i32_9 v10
  let c256_i32_95 : BitVec 32 := 256#32
  let v310 : BitVec 32 := Scalar.muli v11 c256_i32_95
  let c208_i32 : BitVec 32 := 208#32
  let v311 : BitVec 32 := Scalar.addi v310 c208_i32
  v311
def k1_mult15 (k1_t1 : Fin k1_t1_loop.trips) : BitVec 32 :=
  let c0_i32_9 : BitVec 32 := 0#32
  let c0_i32_6 : BitVec 32 := 0#32
  let c1_i32 : BitVec 32 := 1#32
  let arg10 : BitVec 32 := Scf.iv c0_i32_6 c1_i32 k1_t1
  let c1_i32_8 : BitVec 32 := 1#32
  let v10 : BitVec 32 := Scalar.muli arg10 c1_i32_8
  let v11 : BitVec 32 := Scalar.addi c0_i32_9 v10
  let c256_i32_102 : BitVec 32 := 256#32
  let v333 : BitVec 32 := Scalar.muli v11 c256_i32_102
  let c224_i32 : BitVec 32 := 224#32
  let v334 : BitVec 32 := Scalar.addi v333 c224_i32
  v334
def k1_mult16 (k1_t1 : Fin k1_t1_loop.trips) : BitVec 32 :=
  let c0_i32_9 : BitVec 32 := 0#32
  let c0_i32_6 : BitVec 32 := 0#32
  let c1_i32 : BitVec 32 := 1#32
  let arg10 : BitVec 32 := Scf.iv c0_i32_6 c1_i32 k1_t1
  let c1_i32_8 : BitVec 32 := 1#32
  let v10 : BitVec 32 := Scalar.muli arg10 c1_i32_8
  let v11 : BitVec 32 := Scalar.addi c0_i32_9 v10
  let c256_i32_105 : BitVec 32 := 256#32
  let v345 : BitVec 32 := Scalar.muli v11 c256_i32_105
  let c240_i32 : BitVec 32 := 240#32
  let v346 : BitVec 32 := Scalar.addi v345 c240_i32
  v346
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x7168 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S28x64x512 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S28x32x512 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S28x12x512 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S28x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== KernelIdeal.lean ====
abbrev S16x2x512 : Shape := ⟨3, ![16, 2, 512]⟩
abbrev S16x1x512 : Shape := ⟨3, ![16, 1, 512]⟩
abbrev S1x2x512 : Shape := ⟨3, ![1, 2, 512]⟩
abbrev S1x1x512 : Shape := ⟨3, ![1, 1, 512]⟩
  | .local _ .vmem, ⟨23, _⟩ => ⟨S16x2x512, .bf16⟩
variable {F : FTy → Type} [FloatOps F]
-- ==== ReferenceIdeal.lean ====
abbrev S3x4096x7168 : Shape := ⟨3, ![3, 4096, 7168]⟩
abbrev S7168 : Shape := ⟨1, ![7168]⟩
abbrev S18432x28x32 : Shape := ⟨3, ![18432, 28, 32]⟩
abbrev S18432x28x64 : Shape := ⟨3, ![18432, 28, 64]⟩
abbrev S18432x28x12 : Shape := ⟨3, ![18432, 28, 12]⟩
abbrev S18432x28 : Shape := ⟨2, ![18432, 28]⟩
abbrev S_ : Shape := ⟨0, ![]⟩
abbrev S3x4096 : Shape := ⟨2, ![3, 4096]⟩
abbrev S3x4096x1 : Shape := ⟨3, ![3, 4096, 1]⟩
abbrev S1x1x7168 : Shape := ⟨3, ![1, 1, 7168]⟩
abbrev S3x4096x28x256 : Shape := ⟨4, ![3, 4096, 28, 256]⟩
abbrev S3x4096x28 : Shape := ⟨3, ![3, 4096, 28]⟩
abbrev S3x4096x28x1 : Shape := ⟨4, ![3, 4096, 28, 1]⟩
abbrev S3x4096x28x2x4x32 : Shape := ⟨6, ![3, 4096, 28, 2, 4, 32]⟩
abbrev S18432x28x8 : Shape := ⟨3, ![18432, 28, 8]⟩
abbrev S18432x28x16 : Shape := ⟨3, ![18432, 28, 16]⟩
abbrev S18432x28x4 : Shape := ⟨3, ![18432, 28, 4]⟩
abbrev S18432x28x1x4 : Shape := ⟨4, ![18432, 28, 1, 4]⟩
abbrev S18432x28x4x4 : Shape := ⟨4, ![18432, 28, 4, 4]⟩
abbrev S18432x28x1 : Shape := ⟨3, ![18432, 28, 1]⟩
abbrev S18432x28x2x32 : Shape := ⟨4, ![18432, 28, 2, 32]⟩
abbrev S18432x28x1x32 : Shape := ⟨4, ![18432, 28, 1, 32]⟩
abbrev S18432x28x2 : Shape := ⟨3, ![18432, 28, 2]⟩
abbrev S18432x28x2x16 : Shape := ⟨4, ![18432, 28, 2, 16]⟩
abbrev S3x4096x28x1x1x32 : Shape := ⟨6, ![3, 4096, 28, 1, 1, 32]⟩
abbrev S3x4096x28x32 : Shape := ⟨4, ![3, 4096, 28, 32]⟩
abbrev S3x4096x18432 : Shape := ⟨3, ![3, 4096, 18432]⟩

abbrev nBuf : Space → Nat
  | .hbm => 359
  | .vmem => 0
  | .smem => 0
  | _ => 0

abbrev hbmTy0_0 (i : Nat) : BufTy := match i % 128 with
  | 0 => ⟨S3x4096x7168, .bf16⟩
  | 1 => ⟨S7168, .f32⟩
  | 2 => ⟨S18432x28x32, .i8⟩
  | 3 => ⟨S18432x28x64, .i8⟩
  | 4 => ⟨S18432x28x12, .i8⟩
  | 5 => ⟨S18432x28, .f32⟩
  | 6 => ⟨S3x4096x7168, .f32⟩
  | 7 => ⟨S3x4096x7168, .f32⟩
  | 8 => ⟨S_, .f32⟩
  | 9 => ⟨S3x4096, .f32⟩
  | 10 => ⟨S3x4096x1, .f32⟩
  | 11 => ⟨S_, .f32⟩
  | 12 => ⟨S3x4096x1, .f32⟩
  | 13 => ⟨S3x4096x1, .f32⟩
  | 14 => ⟨S_, .f32⟩
  | 15 => ⟨S3x4096x1, .f32⟩
  | 16 => ⟨S3x4096x1, .f32⟩
  | 17 => ⟨S3x4096x1, .f32⟩
  | 18 => ⟨S3x4096x7168, .f32⟩
  | 19 => ⟨S3x4096x7168, .f32⟩
  | 20 => ⟨S1x1x7168, .f32⟩
  | 21 => ⟨S3x4096x7168, .f32⟩
  | 22 => ⟨S3x4096x7168, .f32⟩
  | 23 => ⟨S3x4096x28x256, .f32⟩
  | 24 => ⟨S3x4096x28x256, .f32⟩
  | 25 => ⟨S_, .f32⟩
  | 26 => ⟨S3x4096x28, .f32⟩
  | 27 => ⟨S_, .f32⟩
  | 28 => ⟨S3x4096x28, .f32⟩
  | 29 => ⟨S3x4096x28, .i1⟩
  | 30 => ⟨S_, .f32⟩
  | 31 => ⟨S3x4096x28, .f32⟩
  | 32 => ⟨S3x4096x28, .f32⟩
  | 33 => ⟨S_, .f32⟩
  | 34 => ⟨S_, .f32⟩
  | 35 => ⟨S3x4096x28, .f32⟩
  | 36 => ⟨S3x4096x28, .f32⟩
  | 37 => ⟨S3x4096x28x1, .f32⟩
  | 38 => ⟨S3x4096x28x256, .f32⟩
  | 39 => ⟨S3x4096x28x256, .f32⟩
  | 40 => ⟨S3x4096x28x256, .f32⟩
  | 41 => ⟨S_, .f32⟩
  | 42 => ⟨S_, .f32⟩
  | 43 => ⟨S_, .f32⟩
  | 44 => ⟨S3x4096x28x256, .f32⟩
  | 45 => ⟨S3x4096x28x256, .f32⟩
  | 46 => ⟨S_, .f32⟩
  | 47 => ⟨S3x4096x28x256, .f32⟩
  | 48 => ⟨S3x4096x28x256, .f32⟩
  | 49 => ⟨S3x4096x28x256, .i32⟩
  | 50 => ⟨S3x4096x28x256, .i8⟩
  | 51 => ⟨S3x4096x7168, .i8⟩
  | 52 => ⟨S3x4096x28x256, .i8⟩
  | 53 => ⟨S3x4096x28x256, .i32⟩
  | 54 => ⟨S3x4096x28x256, .bf16⟩
  | 55 => ⟨S3x4096x28, .bf16⟩
  | 56 => ⟨S3x4096x28x1, .bf16⟩
  | 57 => ⟨S3x4096x28x256, .bf16⟩
  | 58 => ⟨S3x4096x28x256, .bf16⟩
  | 59 => ⟨S3x4096x28x2x4x32, .bf16⟩
  | 60 => ⟨S18432x28x12, .i32⟩
  | 61 => ⟨S18432x28x8, .i32⟩
  | 62 => ⟨S_, .i32⟩
  | 63 => ⟨S18432x28x8, .i32⟩
  | 64 => ⟨S18432x28x8, .i32⟩
  | 65 => ⟨S18432x28x8, .i32⟩
  | 66 => ⟨S_, .i32⟩
  | 67 => ⟨S18432x28x8, .i32⟩
  | 68 => ⟨S18432x28x8, .i32⟩
  | 69 => ⟨S_, .i32⟩
  | 70 => ⟨S18432x28x8, .i32⟩
  | 71 => ⟨S18432x28x8, .i32⟩
  | 72 => ⟨S18432x28x16, .i32⟩
  | 73 => ⟨S18432x28x4, .i32⟩
  | 74 => ⟨S_, .i32⟩
  | 75 => ⟨S18432x28x4, .i32⟩
  | 76 => ⟨S18432x28x4, .i32⟩
  | 77 => ⟨S_, .i32⟩
  | 78 => ⟨S18432x28x4, .i32⟩
  | 79 => ⟨S18432x28x4, .i32⟩
  | 80 => ⟨S_, .i32⟩
  | 81 => ⟨S18432x28x4, .i32⟩
  | 82 => ⟨S18432x28x4, .i32⟩
  | 83 => ⟨S_, .i32⟩
  | 84 => ⟨S18432x28x4, .i32⟩
  | 85 => ⟨S18432x28x4, .i32⟩
  | 86 => ⟨S_, .i32⟩
  | 87 => ⟨S18432x28x4, .i32⟩
  | 88 => ⟨S18432x28x4, .i32⟩
  | 89 => ⟨S_, .i32⟩
  | 90 => ⟨S18432x28x4, .i32⟩
  | 91 => ⟨S18432x28x4, .i32⟩
  | 92 => ⟨S_, .i32⟩
  | 93 => ⟨S18432x28x4, .i32⟩
  | 94 => ⟨S18432x28x4, .i32⟩
  | 95 => ⟨S_, .i32⟩
  | 96 => ⟨S18432x28x4, .i32⟩
  | 97 => ⟨S18432x28x4, .i32⟩
  | 98 => ⟨S18432x28x1x4, .i32⟩
  | 99 => ⟨S18432x28x1x4, .i32⟩
  | 100 => ⟨S18432x28x1x4, .i32⟩
  | 101 => ⟨S18432x28x1x4, .i32⟩
  | 102 => ⟨S18432x28x4x4, .i32⟩
  | 103 => ⟨S18432x28x16, .i32⟩
  | 104 => ⟨S_, .i32⟩
  | 105 => ⟨S18432x28x16, .i32⟩
  | 106 => ⟨S18432x28x16, .i32⟩
  | 107 => ⟨S18432x28x16, .i32⟩
  | 108 => ⟨S18432x28x1, .f32⟩
  | 109 => ⟨S_, .i32⟩
  | 110 => ⟨S18432x28x16, .i32⟩
  | 111 => ⟨S18432x28x16, .i32⟩
  | 112 => ⟨S18432x28x16, .f32⟩
  | 113 => ⟨S18432x28x16, .f32⟩
  | 114 => ⟨S18432x28x16, .f32⟩
  | 115 => ⟨S18432x28x16, .bf16⟩
  | 116 => ⟨S18432x28x64, .i32⟩
  | 117 => ⟨S18432x28x2x32, .i32⟩
  | 118 => ⟨S18432x28x32, .i32⟩
  | 119 => ⟨S18432x28x1x32, .i32⟩
  | 120 => ⟨S18432x28x32, .i32⟩
  | 121 => ⟨S_, .i32⟩
  | 122 => ⟨S18432x28x32, .i32⟩
  | 123 => ⟨S18432x28x32, .i32⟩
  | 124 => ⟨S_, .i32⟩
  | 125 => ⟨S18432x28x32, .i32⟩
  | 126 => ⟨S18432x28x32, .i32⟩
  | 127 => ⟨S_, .i32⟩
  | _ => ⟨S3x4096x7168, .bf16⟩

abbrev hbmTy0_1 (i : Nat) : BufTy := match i % 128 with
  | 0 => ⟨S18432x28x32, .i32⟩
  | 1 => ⟨S18432x28x32, .i32⟩
  | 2 => ⟨S_, .i32⟩
  | 3 => ⟨S18432x28x32, .i32⟩
  | 4 => ⟨S18432x28x32, .i32⟩
  | 5 => ⟨S_, .i32⟩
  | 6 => ⟨S18432x28x32, .i32⟩
  | 7 => ⟨S18432x28x32, .i32⟩
  | 8 => ⟨S18432x28x32, .i32⟩
  | 9 => ⟨S_, .i32⟩
  | 10 => ⟨S18432x28x32, .i32⟩
  | 11 => ⟨S18432x28x32, .i32⟩
  | 12 => ⟨S18432x28x32, .bf16⟩
  | 13 => ⟨S18432x28x2, .bf16⟩
  | 14 => ⟨S18432x28x2x16, .bf16⟩
  | 15 => ⟨S18432x28x32, .bf16⟩
  | 16 => ⟨S18432x28x32, .bf16⟩
  | 17 => ⟨S3x4096x28x1x1x32, .bf16⟩
  | 18 => ⟨S3x4096x28x32, .bf16⟩
  | 19 => ⟨S3x4096x18432, .f32⟩
  | 20 => ⟨S18432x28x1x32, .i32⟩
  | 21 => ⟨S18432x28x32, .i32⟩
  | 22 => ⟨S_, .i32⟩
  | 23 => ⟨S18432x28x32, .i32⟩
  | 24 => ⟨S18432x28x32, .i32⟩
  | 25 => ⟨S_, .i32⟩
  | 26 => ⟨S18432x28x32, .i32⟩
  | 27 => ⟨S18432x28x32, .i32⟩
  | 28 => ⟨S_, .i32⟩
  | 29 => ⟨S18432x28x32, .i32⟩
  | 30 => ⟨S18432x28x32, .i32⟩
  | 31 => ⟨S_, .i32⟩
  | 32 => ⟨S18432x28x32, .i32⟩
  | 33 => ⟨S18432x28x32, .i32⟩
  | 34 => ⟨S_, .i32⟩
  | 35 => ⟨S18432x28x32, .i32⟩
  | 36 => ⟨S18432x28x32, .i32⟩
  | 37 => ⟨S18432x28x32, .i32⟩
  | 38 => ⟨S_, .i32⟩
  | 39 => ⟨S18432x28x32, .i32⟩
  | 40 => ⟨S18432x28x32, .i32⟩
  | 41 => ⟨S18432x28x32, .bf16⟩
  | 42 => ⟨S18432x28x2, .bf16⟩
  | 43 => ⟨S18432x28x2x16, .bf16⟩
  | 44 => ⟨S18432x28x32, .bf16⟩
  | 45 => ⟨S18432x28x32, .bf16⟩
  | 46 => ⟨S3x4096x28x1x1x32, .bf16⟩
  | 47 => ⟨S3x4096x28x32, .bf16⟩
  | 48 => ⟨S3x4096x18432, .f32⟩
  | 49 => ⟨S3x4096x18432, .f32⟩
  | 50 => ⟨S18432x28x1x32, .i32⟩
  | 51 => ⟨S18432x28x32, .i32⟩
  | 52 => ⟨S_, .i32⟩
  | 53 => ⟨S18432x28x32, .i32⟩
  | 54 => ⟨S18432x28x32, .i32⟩
  | 55 => ⟨S_, .i32⟩
  | 56 => ⟨S18432x28x32, .i32⟩
  | 57 => ⟨S18432x28x32, .i32⟩
  | 58 => ⟨S_, .i32⟩
  | 59 => ⟨S18432x28x32, .i32⟩
  | 60 => ⟨S18432x28x32, .i32⟩
  | 61 => ⟨S_, .i32⟩
  | 62 => ⟨S18432x28x32, .i32⟩
  | 63 => ⟨S18432x28x32, .i32⟩
  | 64 => ⟨S_, .i32⟩
  | 65 => ⟨S18432x28x32, .i32⟩
  | 66 => ⟨S18432x28x32, .i32⟩
  | 67 => ⟨S18432x28x32, .i32⟩
  | 68 => ⟨S_, .i32⟩
  | 69 => ⟨S18432x28x32, .i32⟩
  | 70 => ⟨S18432x28x32, .i32⟩
  | 71 => ⟨S18432x28x32, .bf16⟩
  | 72 => ⟨S18432x28x2, .bf16⟩
  | 73 => ⟨S18432x28x2x16, .bf16⟩
  | 74 => ⟨S18432x28x32, .bf16⟩
  | 75 => ⟨S18432x28x32, .bf16⟩
  | 76 => ⟨S3x4096x28x1x1x32, .bf16⟩
  | 77 => ⟨S3x4096x28x32, .bf16⟩
  | 78 => ⟨S3x4096x18432, .f32⟩
  | 79 => ⟨S3x4096x18432, .f32⟩
  | 80 => ⟨S18432x28x1x32, .i32⟩
  | 81 => ⟨S18432x28x32, .i32⟩
  | 82 => ⟨S_, .i32⟩
  | 83 => ⟨S18432x28x32, .i32⟩
  | 84 => ⟨S18432x28x32, .i32⟩
  | 85 => ⟨S_, .i32⟩
  | 86 => ⟨S18432x28x32, .i32⟩
  | 87 => ⟨S18432x28x32, .i32⟩
  | 88 => ⟨S_, .i32⟩
  | 89 => ⟨S18432x28x32, .i32⟩
  | 90 => ⟨S18432x28x32, .i32⟩
  | 91 => ⟨S_, .i32⟩
  | 92 => ⟨S18432x28x32, .i32⟩
  | 93 => ⟨S18432x28x32, .i32⟩
  | 94 => ⟨S_, .i32⟩
  | 95 => ⟨S18432x28x32, .i32⟩
  | 96 => ⟨S18432x28x32, .i32⟩
  | 97 => ⟨S18432x28x32, .i32⟩
  | 98 => ⟨S_, .i32⟩
  | 99 => ⟨S18432x28x32, .i32⟩
  | 100 => ⟨S18432x28x32, .i32⟩
  | 101 => ⟨S18432x28x32, .bf16⟩
  | 102 => ⟨S18432x28x2, .bf16⟩
  | 103 => ⟨S18432x28x2x16, .bf16⟩
  | 104 => ⟨S18432x28x32, .bf16⟩
  | 105 => ⟨S18432x28x32, .bf16⟩
  | 106 => ⟨S3x4096x28x1x1x32, .bf16⟩
  | 107 => ⟨S3x4096x28x32, .bf16⟩
  | 108 => ⟨S3x4096x18432, .f32⟩
  | 109 => ⟨S3x4096x18432, .f32⟩
  | 110 => ⟨S18432x28x1x32, .i32⟩
  | 111 => ⟨S18432x28x32, .i32⟩
  | 112 => ⟨S_, .i32⟩
  | 113 => ⟨S18432x28x32, .i32⟩
  | 114 => ⟨S18432x28x32, .i32⟩
  | 115 => ⟨S_, .i32⟩
  | 116 => ⟨S18432x28x32, .i32⟩
  | 117 => ⟨S18432x28x32, .i32⟩
  | 118 => ⟨S_, .i32⟩
  | 119 => ⟨S18432x28x32, .i32⟩
  | 120 => ⟨S18432x28x32, .i32⟩
  | 121 => ⟨S_, .i32⟩
  | 122 => ⟨S18432x28x32, .i32⟩
  | 123 => ⟨S18432x28x32, .i32⟩
  | 124 => ⟨S_, .i32⟩
  | 125 => ⟨S18432x28x32, .i32⟩
  | 126 => ⟨S18432x28x32, .i32⟩
  | 127 => ⟨S18432x28x32, .i32⟩
  | _ => ⟨S3x4096x7168, .bf16⟩

abbrev hbmTy0_2 (i : Nat) : BufTy := match i % 128 with
  | 0 => ⟨S_, .i32⟩
  | 1 => ⟨S18432x28x32, .i32⟩
  | 2 => ⟨S18432x28x32, .i32⟩
  | 3 => ⟨S18432x28x32, .bf16⟩
  | 4 => ⟨S18432x28x2, .bf16⟩
  | 5 => ⟨S18432x28x2x16, .bf16⟩
  | 6 => ⟨S18432x28x32, .bf16⟩
  | 7 => ⟨S18432x28x32, .bf16⟩
  | 8 => ⟨S3x4096x28x1x1x32, .bf16⟩
  | 9 => ⟨S3x4096x28x32, .bf16⟩
  | 10 => ⟨S3x4096x18432, .f32⟩
  | 11 => ⟨S3x4096x18432, .f32⟩
  | 12 => ⟨S18432x28x1x32, .i32⟩
  | 13 => ⟨S18432x28x32, .i32⟩
  | 14 => ⟨S_, .i32⟩
  | 15 => ⟨S18432x28x32, .i32⟩
  | 16 => ⟨S18432x28x32, .i32⟩
  | 17 => ⟨S_, .i32⟩
  | 18 => ⟨S18432x28x32, .i32⟩
  | 19 => ⟨S18432x28x32, .i32⟩
  | 20 => ⟨S_, .i32⟩
  | 21 => ⟨S18432x28x32, .i32⟩
  | 22 => ⟨S18432x28x32, .i32⟩
  | 23 => ⟨S_, .i32⟩
  | 24 => ⟨S18432x28x32, .i32⟩
  | 25 => ⟨S18432x28x32, .i32⟩
  | 26 => ⟨S_, .i32⟩
  | 27 => ⟨S18432x28x32, .i32⟩
  | 28 => ⟨S18432x28x32, .i32⟩
  | 29 => ⟨S18432x28x32, .i32⟩
  | 30 => ⟨S_, .i32⟩
  | 31 => ⟨S18432x28x32, .i32⟩
  | 32 => ⟨S18432x28x32, .i32⟩
  | 33 => ⟨S18432x28x32, .bf16⟩
  | 34 => ⟨S18432x28x2, .bf16⟩
  | 35 => ⟨S18432x28x2x16, .bf16⟩
  | 36 => ⟨S18432x28x32, .bf16⟩
  | 37 => ⟨S18432x28x32, .bf16⟩
  | 38 => ⟨S3x4096x28x1x1x32, .bf16⟩
  | 39 => ⟨S3x4096x28x32, .bf16⟩
  | 40 => ⟨S3x4096x18432, .f32⟩
  | 41 => ⟨S3x4096x18432, .f32⟩
  | 42 => ⟨S18432x28x1x32, .i32⟩
  | 43 => ⟨S18432x28x32, .i32⟩
  | 44 => ⟨S_, .i32⟩
  | 45 => ⟨S18432x28x32, .i32⟩
  | 46 => ⟨S18432x28x32, .i32⟩
  | 47 => ⟨S_, .i32⟩
  | 48 => ⟨S18432x28x32, .i32⟩
  | 49 => ⟨S18432x28x32, .i32⟩
  | 50 => ⟨S_, .i32⟩
  | 51 => ⟨S18432x28x32, .i32⟩
  | 52 => ⟨S18432x28x32, .i32⟩
  | 53 => ⟨S_, .i32⟩
  | 54 => ⟨S18432x28x32, .i32⟩
  | 55 => ⟨S18432x28x32, .i32⟩
  | 56 => ⟨S_, .i32⟩
  | 57 => ⟨S18432x28x32, .i32⟩
  | 58 => ⟨S18432x28x32, .i32⟩
  | 59 => ⟨S18432x28x32, .i32⟩
  | 60 => ⟨S_, .i32⟩
  | 61 => ⟨S18432x28x32, .i32⟩
  | 62 => ⟨S18432x28x32, .i32⟩
  | 63 => ⟨S18432x28x32, .bf16⟩
  | 64 => ⟨S18432x28x2, .bf16⟩
  | 65 => ⟨S18432x28x2x16, .bf16⟩
  | 66 => ⟨S18432x28x32, .bf16⟩
  | 67 => ⟨S18432x28x32, .bf16⟩
  | 68 => ⟨S3x4096x28x1x1x32, .bf16⟩
  | 69 => ⟨S3x4096x28x32, .bf16⟩
  | 70 => ⟨S3x4096x18432, .f32⟩
  | 71 => ⟨S3x4096x18432, .f32⟩
  | 72 => ⟨S18432x28x1x32, .i32⟩
  | 73 => ⟨S18432x28x32, .i32⟩
  | 74 => ⟨S_, .i32⟩
  | 75 => ⟨S18432x28x32, .i32⟩
  | 76 => ⟨S18432x28x32, .i32⟩
  | 77 => ⟨S_, .i32⟩
  | 78 => ⟨S18432x28x32, .i32⟩
  | 79 => ⟨S18432x28x32, .i32⟩
  | 80 => ⟨S_, .i32⟩
  | 81 => ⟨S18432x28x32, .i32⟩
  | 82 => ⟨S18432x28x32, .i32⟩
  | 83 => ⟨S_, .i32⟩
  | 84 => ⟨S18432x28x32, .i32⟩
  | 85 => ⟨S18432x28x32, .i32⟩
  | 86 => ⟨S_, .i32⟩
  | 87 => ⟨S18432x28x32, .i32⟩
  | 88 => ⟨S18432x28x32, .i32⟩
  | 89 => ⟨S18432x28x32, .i32⟩
  | 90 => ⟨S_, .i32⟩
  | 91 => ⟨S18432x28x32, .i32⟩
  | 92 => ⟨S18432x28x32, .i32⟩
  | 93 => ⟨S18432x28x32, .bf16⟩
  | 94 => ⟨S18432x28x2, .bf16⟩
  | 95 => ⟨S18432x28x2x16, .bf16⟩
  | 96 => ⟨S18432x28x32, .bf16⟩
  | 97 => ⟨S18432x28x32, .bf16⟩
  | 98 => ⟨S3x4096x28x1x1x32, .bf16⟩
  | 99 => ⟨S3x4096x28x32, .bf16⟩
  | 100 => ⟨S3x4096x18432, .f32⟩
  | 101 => ⟨S3x4096x18432, .f32⟩
  | 102 => ⟨S3x4096x18432, .bf16⟩
  | _ => ⟨S3x4096x7168, .bf16⟩

abbrev hbmTy (i : Nat) : BufTy := match i / 128 with
  | 0 => hbmTy0_0 i
  | 1 => hbmTy0_1 i
  | 2 => hbmTy0_2 i
  | _ => ⟨S3x4096x7168, .bf16⟩

abbrev bufTy : (tb : Table) → Fin (tcTables nBuf tb) → BufTy
  | .hbm, ⟨i, _⟩ => hbmTy i
  | _, _ => ⟨S3x4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_call0_v0 : Ref sig .tc := ⟨.hbm, 34, rfl⟩
abbrev main_call0_v1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_cst_7 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_8 : Ref sig .tc := ⟨.hbm, 66, rfl⟩
abbrev main_v43 : Ref sig .tc := ⟨.hbm, 67, rfl⟩
abbrev main_v44 : Ref sig .tc := ⟨.hbm, 68, rfl⟩
abbrev main_c_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_c_12 : Ref sig .tc := ⟨.hbm, 80, rfl⟩
abbrev main_v53 : Ref sig .tc := ⟨.hbm, 81, rfl⟩
abbrev main_v54 : Ref sig .tc := ⟨.hbm, 82, rfl⟩
abbrev main_c_13 : Ref sig .tc := ⟨.hbm, 83, rfl⟩
abbrev main_v55 : Ref sig .tc := ⟨.hbm, 84, rfl⟩
abbrev main_v56 : Ref sig .tc := ⟨.hbm, 85, rfl⟩
abbrev main_c_14 : Ref sig .tc := ⟨.hbm, 86, rfl⟩
abbrev main_v57 : Ref sig .tc := ⟨.hbm, 87, rfl⟩
abbrev main_v58 : Ref sig .tc := ⟨.hbm, 88, rfl⟩
abbrev main_c_15 : Ref sig .tc := ⟨.hbm, 89, rfl⟩
abbrev main_v59 : Ref sig .tc := ⟨.hbm, 90, rfl⟩
abbrev main_v60 : Ref sig .tc := ⟨.hbm, 91, rfl⟩
abbrev main_c_16 : Ref sig .tc := ⟨.hbm, 92, rfl⟩
abbrev main_v61 : Ref sig .tc := ⟨.hbm, 93, rfl⟩
abbrev main_v62 : Ref sig .tc := ⟨.hbm, 94, rfl⟩
abbrev main_c_17 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_18 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_19 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_c_20 : Ref sig .tc := ⟨.hbm, 121, rfl⟩
abbrev main_v86 : Ref sig .tc := ⟨.hbm, 122, rfl⟩
abbrev main_v87 : Ref sig .tc := ⟨.hbm, 123, rfl⟩
abbrev main_c_21 : Ref sig .tc := ⟨.hbm, 124, rfl⟩
abbrev main_v88 : Ref sig .tc := ⟨.hbm, 125, rfl⟩
abbrev main_v89 : Ref sig .tc := ⟨.hbm, 126, rfl⟩
abbrev main_c_22 : Ref sig .tc := ⟨.hbm, 127, rfl⟩
abbrev main_v90 : Ref sig .tc := ⟨.hbm, 128, rfl⟩
abbrev main_v91 : Ref sig .tc := ⟨.hbm, 129, rfl⟩
abbrev main_c_23 : Ref sig .tc := ⟨.hbm, 130, rfl⟩
abbrev main_v92 : Ref sig .tc := ⟨.hbm, 131, rfl⟩
abbrev main_v93 : Ref sig .tc := ⟨.hbm, 132, rfl⟩
abbrev main_c_24 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_c_25 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_c_26 : Ref sig .tc := ⟨.hbm, 150, rfl⟩
abbrev main_v109 : Ref sig .tc := ⟨.hbm, 151, rfl⟩
abbrev main_v110 : Ref sig .tc := ⟨.hbm, 152, rfl⟩
abbrev main_c_27 : Ref sig .tc := ⟨.hbm, 153, rfl⟩
abbrev main_v111 : Ref sig .tc := ⟨.hbm, 154, rfl⟩
abbrev main_v112 : Ref sig .tc := ⟨.hbm, 155, rfl⟩
abbrev main_c_28 : Ref sig .tc := ⟨.hbm, 156, rfl⟩
abbrev main_v113 : Ref sig .tc := ⟨.hbm, 157, rfl⟩
abbrev main_v114 : Ref sig .tc := ⟨.hbm, 158, rfl⟩
abbrev main_c_29 : Ref sig .tc := ⟨.hbm, 159, rfl⟩
abbrev main_v115 : Ref sig .tc := ⟨.hbm, 160, rfl⟩
abbrev main_v116 : Ref sig .tc := ⟨.hbm, 161, rfl⟩
abbrev main_c_30 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_c_31 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_c_32 : Ref sig .tc := ⟨.hbm, 180, rfl⟩
abbrev main_v133 : Ref sig .tc := ⟨.hbm, 181, rfl⟩
abbrev main_v134 : Ref sig .tc := ⟨.hbm, 182, rfl⟩
abbrev main_c_33 : Ref sig .tc := ⟨.hbm, 183, rfl⟩
abbrev main_v135 : Ref sig .tc := ⟨.hbm, 184, rfl⟩
abbrev main_v136 : Ref sig .tc := ⟨.hbm, 185, rfl⟩
abbrev main_c_34 : Ref sig .tc := ⟨.hbm, 186, rfl⟩
abbrev main_v137 : Ref sig .tc := ⟨.hbm, 187, rfl⟩
abbrev main_v138 : Ref sig .tc := ⟨.hbm, 188, rfl⟩
abbrev main_c_35 : Ref sig .tc := ⟨.hbm, 189, rfl⟩
abbrev main_v139 : Ref sig .tc := ⟨.hbm, 190, rfl⟩
abbrev main_v140 : Ref sig .tc := ⟨.hbm, 191, rfl⟩
abbrev main_c_36 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_c_37 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_c_38 : Ref sig .tc := ⟨.hbm, 210, rfl⟩
abbrev main_v157 : Ref sig .tc := ⟨.hbm, 211, rfl⟩
abbrev main_v158 : Ref sig .tc := ⟨.hbm, 212, rfl⟩
abbrev main_c_39 : Ref sig .tc := ⟨.hbm, 213, rfl⟩
abbrev main_v159 : Ref sig .tc := ⟨.hbm, 214, rfl⟩
abbrev main_v160 : Ref sig .tc := ⟨.hbm, 215, rfl⟩
abbrev main_c_40 : Ref sig .tc := ⟨.hbm, 216, rfl⟩
abbrev main_v161 : Ref sig .tc := ⟨.hbm, 217, rfl⟩
abbrev main_v162 : Ref sig .tc := ⟨.hbm, 218, rfl⟩
abbrev main_c_41 : Ref sig .tc := ⟨.hbm, 219, rfl⟩
abbrev main_v163 : Ref sig .tc := ⟨.hbm, 220, rfl⟩
abbrev main_v164 : Ref sig .tc := ⟨.hbm, 221, rfl⟩
abbrev main_c_42 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_c_43 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_c_44 : Ref sig .tc := ⟨.hbm, 240, rfl⟩
abbrev main_v181 : Ref sig .tc := ⟨.hbm, 241, rfl⟩
abbrev main_v182 : Ref sig .tc := ⟨.hbm, 242, rfl⟩
abbrev main_c_45 : Ref sig .tc := ⟨.hbm, 243, rfl⟩
abbrev main_v183 : Ref sig .tc := ⟨.hbm, 244, rfl⟩
abbrev main_v184 : Ref sig .tc := ⟨.hbm, 245, rfl⟩
abbrev main_c_46 : Ref sig .tc := ⟨.hbm, 246, rfl⟩
abbrev main_v185 : Ref sig .tc := ⟨.hbm, 247, rfl⟩
abbrev main_v186 : Ref sig .tc := ⟨.hbm, 248, rfl⟩
abbrev main_c_47 : Ref sig .tc := ⟨.hbm, 249, rfl⟩
abbrev main_v187 : Ref sig .tc := ⟨.hbm, 250, rfl⟩
abbrev main_v188 : Ref sig .tc := ⟨.hbm, 251, rfl⟩
abbrev main_c_48 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_c_49 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_c_50 : Ref sig .tc := ⟨.hbm, 270, rfl⟩
abbrev main_v205 : Ref sig .tc := ⟨.hbm, 271, rfl⟩
abbrev main_v206 : Ref sig .tc := ⟨.hbm, 272, rfl⟩
abbrev main_c_51 : Ref sig .tc := ⟨.hbm, 273, rfl⟩
abbrev main_v207 : Ref sig .tc := ⟨.hbm, 274, rfl⟩
abbrev main_v208 : Ref sig .tc := ⟨.hbm, 275, rfl⟩
abbrev main_c_52 : Ref sig .tc := ⟨.hbm, 276, rfl⟩
abbrev main_v209 : Ref sig .tc := ⟨.hbm, 277, rfl⟩
abbrev main_v210 : Ref sig .tc := ⟨.hbm, 278, rfl⟩
abbrev main_c_53 : Ref sig .tc := ⟨.hbm, 279, rfl⟩
abbrev main_v211 : Ref sig .tc := ⟨.hbm, 280, rfl⟩
abbrev main_v212 : Ref sig .tc := ⟨.hbm, 281, rfl⟩
abbrev main_c_54 : Ref sig .tc := ⟨.hbm, 282, rfl⟩
abbrev main_v213 : Ref sig .tc := ⟨.hbm, 283, rfl⟩
abbrev main_v214 : Ref sig .tc := ⟨.hbm, 284, rfl⟩
abbrev main_v215 : Ref sig .tc := ⟨.hbm, 285, rfl⟩
abbrev main_c_55 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_c_56 : Ref sig .tc := ⟨.hbm, 300, rfl⟩
abbrev main_v229 : Ref sig .tc := ⟨.hbm, 301, rfl⟩
abbrev main_v230 : Ref sig .tc := ⟨.hbm, 302, rfl⟩
abbrev main_c_57 : Ref sig .tc := ⟨.hbm, 303, rfl⟩
abbrev main_v231 : Ref sig .tc := ⟨.hbm, 304, rfl⟩
abbrev main_v232 : Ref sig .tc := ⟨.hbm, 305, rfl⟩
abbrev main_c_58 : Ref sig .tc := ⟨.hbm, 306, rfl⟩
abbrev main_v233 : Ref sig .tc := ⟨.hbm, 307, rfl⟩
abbrev main_v234 : Ref sig .tc := ⟨.hbm, 308, rfl⟩
abbrev main_c_59 : Ref sig .tc := ⟨.hbm, 309, rfl⟩
abbrev main_v235 : Ref sig .tc := ⟨.hbm, 310, rfl⟩
abbrev main_v236 : Ref sig .tc := ⟨.hbm, 311, rfl⟩
abbrev main_c_60 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_c_61 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_v243 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_c_62 : Ref sig .tc := ⟨.hbm, 330, rfl⟩
abbrev main_v253 : Ref sig .tc := ⟨.hbm, 331, rfl⟩
abbrev main_v254 : Ref sig .tc := ⟨.hbm, 332, rfl⟩
abbrev main_c_63 : Ref sig .tc := ⟨.hbm, 333, rfl⟩
abbrev main_v255 : Ref sig .tc := ⟨.hbm, 334, rfl⟩
abbrev main_v256 : Ref sig .tc := ⟨.hbm, 335, rfl⟩
abbrev main_c_64 : Ref sig .tc := ⟨.hbm, 336, rfl⟩
abbrev main_v257 : Ref sig .tc := ⟨.hbm, 337, rfl⟩
abbrev main_v258 : Ref sig .tc := ⟨.hbm, 338, rfl⟩
abbrev main_c_65 : Ref sig .tc := ⟨.hbm, 339, rfl⟩
abbrev main_v259 : Ref sig .tc := ⟨.hbm, 340, rfl⟩
abbrev main_v260 : Ref sig .tc := ⟨.hbm, 341, rfl⟩
abbrev main_c_66 : Ref sig .tc := ⟨.hbm, 342, rfl⟩
abbrev main_v261 : Ref sig .tc := ⟨.hbm, 343, rfl⟩
abbrev main_v262 : Ref sig .tc := ⟨.hbm, 344, rfl⟩
abbrev main_v263 : Ref sig .tc := ⟨.hbm, 345, rfl⟩
abbrev main_c_67 : Ref sig .tc := ⟨.hbm, 346, rfl⟩
abbrev main_v264 : Ref sig .tc := ⟨.hbm, 347, rfl⟩
abbrev main_v265 : Ref sig .tc := ⟨.hbm, 348, rfl⟩
abbrev main_v266 : Ref sig .tc := ⟨.hbm, 349, rfl⟩
abbrev main_v267 : Ref sig .tc := ⟨.hbm, 350, rfl⟩
abbrev main_v268 : Ref sig .tc := ⟨.hbm, 351, rfl⟩
abbrev main_v269 : Ref sig .tc := ⟨.hbm, 352, rfl⟩
abbrev main_v270 : Ref sig .tc := ⟨.hbm, 353, rfl⟩
abbrev main_v271 : Ref sig .tc := ⟨.hbm, 354, rfl⟩
abbrev main_v272 : Ref sig .tc := ⟨.hbm, 355, rfl⟩
abbrev main_v273 : Ref sig .tc := ⟨.hbm, 356, rfl⟩
abbrev main_v274 : Ref sig .tc := ⟨.hbm, 357, rfl⟩
abbrev main_v275 : Ref sig .tc := ⟨.hbm, 358, rfl⟩

abbrev nD : Nat := 1
abbrev τ : Topo := Topo.v7x

variable {F : FTy → Type} [FloatOps F]
-- ==== Proof.WordQuant.lean ====
/- The first pallas_call of `Kernel` (the quantiser), at any contents `V` of the core's buffers when the region is
   entered: each window's block at a point, what the body leaves in the three result buffers, the proof data `dat0`
   of the pipeline and its obligation `body_obligation0`. The counted loop over the eight chunks of 32 rows runs by
   its invariant (`Gen.loopInv_k0_t1`); its pieces tile each result's buffer. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [BitOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The current staging buffer of the x window holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The current staging buffer of the gain window holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

/-- Each window's current staging memref at point `t`, and its wholeness. -/
abbrev ms0_0 (t : Fin cfg0.N) : Memref sig .tc .vmem S256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x7168 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x7168 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x28x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x7168 .bf16 := win0_4.stage (cfg0.slots t 4)
abbrev hs0_4 (t : Fin cfg0.N) : (ms0_4 t).IsWhole := hstage0_4 ((cfg0.slots t 4).cast nbuf0_4)
/-- The scratch buffer of the scales. -/
abbrev scM0_0 : Memref sig .tc .vmem S256x128 .f32 := Memref.whole cc0_scratch0

/-- The pieces the loop's eight trips store, last first: codes, products and scales. -/
abbrev pieces0 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S256x7168 .i8) (harg3 : arg3.IsWhole) (arg4 : Memref sig .tc .vmem S1x28x256 .f32) (harg4 : arg4.IsWhole) (arg5 : Memref sig .tc .vmem S256x7168 .bf16) (harg5 : arg5.IsWhole) (arg6 : Memref sig .tc .vmem S256x128 .f32) (harg6 : arg6.IsWhole)
    (x0 : Vec F S256x7168 .bf16) (x1 : Vec F S1x7168 .f32) :
    List (View.Piece (Elt F) S256x7168 .i8) × List (View.Piece (Elt F) S256x7168 .bf16) × List (View.Piece (Elt F) S256x128 .f32) :=
  pb_k0_t1 (F := F) Variants.none c none i arg1 harg1 arg2 harg2 arg3 harg3 arg4 harg4 arg5 harg5 arg6 harg6
    (harg1.unread x0) (harg2.unread x1) (Scf.trips k0_t1_loop.lb k0_t1_loop.ub k0_t1_loop.st)

/-- The codes' pieces cover their buffer: blocks of 32 rows by 256 columns tile it. -/
theorem cover0_2 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S256x7168 .i8) (harg3 : arg3.IsWhole) (arg4 : Memref sig .tc .vmem S1x28x256 .f32) (harg4 : arg4.IsWhole) (arg5 : Memref sig .tc .vmem S256x7168 .bf16) (harg5 : arg5.IsWhole) (arg6 : Memref sig .tc .vmem S256x128 .f32) (harg6 : arg6.IsWhole)
    (x0 : Vec F S256x7168 .bf16) (x1 : Vec F S1x7168 .f32) (y : S256x7168.Idx) :
    ∃ pc ∈ (pieces0 c i arg1 harg1 arg2 harg2 arg3 harg3 arg4 harg4 arg5 harg5 arg6 harg6 x0 x1).1, y ∈ pc.1.set :=
  View.cover_of_tiledL _ ![32, 256] (by sl_kernel_rfl) y
/-- The products' pieces cover their buffer. -/
theorem cover0_4 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S256x7168 .i8) (harg3 : arg3.IsWhole) (arg4 : Memref sig .tc .vmem S1x28x256 .f32) (harg4 : arg4.IsWhole) (arg5 : Memref sig .tc .vmem S256x7168 .bf16) (harg5 : arg5.IsWhole) (arg6 : Memref sig .tc .vmem S256x128 .f32) (harg6 : arg6.IsWhole)
    (x0 : Vec F S256x7168 .bf16) (x1 : Vec F S1x7168 .f32) (y : S256x7168.Idx) :
    ∃ pc ∈ (pieces0 c i arg1 harg1 arg2 harg2 arg3 harg3 arg4 harg4 arg5 harg5 arg6 harg6 x0 x1).2.1, y ∈ pc.1.set :=
  View.cover_of_tiledL _ ![32, 256] (by sl_kernel_rfl) y
/-- The scales' pieces cover their scratch: blocks of 32 rows tile it. -/
theorem cover0_6 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S256x7168 .i8) (harg3 : arg3.IsWhole) (arg4 : Memref sig .tc .vmem S1x28x256 .f32) (harg4 : arg4.IsWhole) (arg5 : Memref sig .tc .vmem S256x7168 .bf16) (harg5 : arg5.IsWhole) (arg6 : Memref sig .tc .vmem S256x128 .f32) (harg6 : arg6.IsWhole)
    (x0 : Vec F S256x7168 .bf16) (x1 : Vec F S1x7168 .f32) (y : S256x128.Idx) :
    ∃ pc ∈ (pieces0 c i arg1 harg1 arg2 harg2 arg3 harg3 arg4 harg4 arg5 harg5 arg6 harg6 x0 x1).2.2, y ∈ pc.1.set :=
  View.cover_of_tiledL _ ![32, 128] (by sl_kernel_rfl) y

theorem zero3 : (![0, 0, 0] : Fin 3 → ℕ) = fun _ => 0 := by decide
theorem zero2 : (![0, 0] : Fin 2 → ℕ) = fun _ => 0 := by decide

set_option maxHeartbeats 1000000 in
/-- The body's triple: on whole staging memrefs with the inputs at `x0` and `x1` and everything else at any contents, the
    body runs to the continuation holding the inputs as they were, the codes' and the products' buffers at what the
    loop's pieces leave, and the scales' buffer at the transposed scratch. -/
theorem kernelRun0 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S256x7168 .i8) (harg3 : arg3.IsWhole) (arg4 : Memref sig .tc .vmem S1x28x256 .f32) (harg4 : arg4.IsWhole) (arg5 : Memref sig .tc .vmem S256x7168 .bf16) (harg5 : arg5.IsWhole) (arg6 : Memref sig .tc .vmem S256x128 .f32) (harg6 : arg6.IsWhole)
    (x0 : Vec F S256x7168 .bf16) (x1 : Vec F S1x7168 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ owns (c : Thread nD τ) arg3 fullShare (View.canon (pieces0 c i arg1 harg1 arg2 harg2 arg3 harg3 arg4 harg4 arg5 harg5 arg6 harg6 x0 x1).1)
                ∗ owns (c : Thread nD τ) arg4 fullShare (k0_pay4 (View.canon (pieces0 c i arg1 harg1 arg2 harg2 arg3 harg3 arg4 harg4 arg5 harg5 arg6 harg6 x0 x1).2.2))
                ∗ owns (c : Thread nD τ) arg5 fullShare (View.canon (pieces0 c i arg1 harg1 arg2 harg2 arg3 harg3 arg4 harg4 arg5 harg5 arg6 harg6 x0 x1).2.1)
                ∗ (∃ d, owns (c : Thread nD τ) arg6 fullShare d)) -∗ K ⟨⟩))
          ⊢ wp frame (wpE (defs₀ (F := F)) Variants.none c none) E (cc0_quant i arg1 harg1 arg2 harg2 arg3 harg3 arg4 harg4 arg5 harg5 arg6 harg6) K := by
  intro E K
  simp only [cc0_quant_eq_skeleton]; unfold cc0_quant_skel
  unfold owns
  iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, Hk⟩
  obtain rfl := harg1.eq_unread hf0; obtain rfl := harg2.eq_unread hf1
  sl_exec
  sl_step
  have hs : (arg6.view.readAt (Elt F) (Rect.unit ![0, 0] S256x128.size inb_S256x128_S256x128_0_0).toLoadRect
      (arg6.view.writes (Elt F) fs0 (pieces0 c i arg1 harg1 arg2 harg2 arg3 harg3 arg4 harg4 arg5 harg5 arg6 harg6 x0 x1).2.2) : Vec F S256x128 .f32)
      = View.canon (pieces0 c i arg1 harg1 arg2 harg2 arg3 harg3 arg4 harg4 arg5 harg5 arg6 harg6 x0 x1).2.2 := by
    rw [View.readAt_eq_ld, View.read_writes_eq_canon _ _ _ (cover0_6 c i arg1 harg1 arg2 harg2 arg3 harg3 arg4 harg4 arg5 harg5 arg6 harg6 x0 x1)]
    exact View.ld_unit_zero zero2 _ _
  sl_unfold_run_names
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    exact View.read_writes_eq_canon _ _ _ (cover0_2 c i arg1 harg1 arg2 harg2 arg3 harg3 arg4 harg4 arg5 harg5 arg6 harg6 x0 x1)
  isplitl [H3]
  · iexists _; isplitr; swap; · iexact H3
    ipureintro
    rw [View.read_writes_eq_canon _ _ _ (fun y => ⟨_, List.mem_singleton_self _, View.mem_set_unit_zero zero3 inb_S1x28x256_S1x28x256_0_0_0 y⟩),
      View.canon_unit_zero zero3]
    exact congrArg k0_pay4 hs
  isplitl [H4]
  · iexists _; isplitr; swap; · iexact H4
    ipureintro
    exact View.read_writes_eq_canon _ _ _ (cover0_4 c i arg1 harg1 arg2 harg2 arg3 harg3 arg4 harg4 arg5 harg5 arg6 harg6 x0 x1)
  iexists _, _; isplitr; swap; · iexact HS0
  ipureintro; rfl

/-! ## What the results hold after each point, and the proof data -/

/-- The pieces stored at point `t`, from the point's blocks. -/
abbrev piecesAt0 (c : Dev nD) (t : Fin cfg0.N) :
    List (View.Piece (Elt F) S256x7168 .i8) × List (View.Piece (Elt F) S256x7168 .bf16) × List (View.Piece (Elt F) S256x128 .f32) :=
  pieces0 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk0 V c 0 t) (iblk0 V c 1 t)

/-- The codes' buffer after point `t`. -/
def out0_2 (c : Dev nD) (t : Fin cfg0.N) : Vec F S256x7168 .i8 := View.canon (piecesAt0 V c t).1
/-- The scales' buffer after point `t`. -/
def out0_3 (c : Dev nD) (t : Fin cfg0.N) : Vec F S1x28x256 .f32 := k0_pay4 (View.canon (piecesAt0 V c t).2.2)
/-- The products' buffer after point `t`. -/
def out0_4 (c : Dev nD) (t : Fin cfg0.N) : Vec F S256x7168 .bf16 := View.canon (piecesAt0 V c t).2.1

/-- The proof data of the first pipeline: the arrays as the region finds them; after the body at point `t` each input's
    buffer at its block and the results' at `out0_2`, `out0_3`, `out0_4`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 V c t
    | ⟨3, _⟩ => out0_3 V c t
    | ⟨4, _⟩ => out0_4 V c t
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 V c t := by dsimp only [dat0]
theorem after0_3 (c : Dev nD) (t : Fin cfg0.N) : (dat0 V c).after 3 t = out0_3 V c t := by dsimp only [dat0]
theorem after0_4 (c : Dev nD) (t : Fin cfg0.N) : (dat0 V c).after 4 t = out0_4 V c t := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The invariant with the scratch of the scales apart as an owned memref. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := by
  unfold Pipeline.ΦA; rw [scopedRest0_eq]; simp only [scM0_0, owns_whole]; try rfl

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- The body at any point: the inputs' memrefs hold their blocks, so the body's triple applies; the scratch goes in and
    out of the invariant. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = Pipeline.ΦA spec0 c from rfl, show (dat0 V c).Φ t.castSucc = Pipeline.ΦA spec0 c from rfl,
    show (dat0 V c).owesAt () t.succ = (dat0 V c).owesAt () t.castSucc from rfl,
    after0_0, after0_1, after0_2, after0_3, after0_4, PhiA0_eq]
  unfold out0_2 out0_3 out0_4
  iintro ⟨⟨⟨HS, HR⟩, Hp⟩, Ho, ⟨%d0, H0⟩, ⟨%d1, H1⟩, ⟨%d2, H2⟩, ⟨%d3, H3⟩, ⟨%d4, H4⟩⟩
  iapply (kernelRun0 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk0 V c 0 t) (iblk0 V c 1 t) Set.univ _)
  isplitl [H0]; · iexact H0
  isplitl [H1]; · iexact H1
  isplitl [H2]; · iexists _; iexact H2
  isplitl [H3]; · iexists _; iexact H3
  isplitl [H4]; · iexists _; iexact H4
  isplitl [HS]; · iexact HS
  iintro ⟨H0, H1, H2, H3, H4, HS⟩
  isplitl [HS HR Hp]
  · isplitl [HS HR]
    · isplitl [HS]; · iexact HS
      iexact HR
    iexact Hp
  isplitl [Ho]; · iexact Ho
  isplitl [H0]; · iexact H0
  isplitl [H1]; · iexact H1
  isplitl [H2]; · iexact H2
  isplitl [H3]; · iexact H3
  iexact H4

/-- The body table's row at point `t`'s slots is the body. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Region

end Cert.Kernel.Whole

end
-- ==== Proof.WordMatmul.lean ====
/- The second pallas_call of `Kernel` (the weights' reconstruction and the matrix product), at any contents `V` of the
   core's buffers when the region is entered: each window's block at a point, the weight tile the scratch holds, the
   result block, the proof data `dat1` and its obligation `body_obligation1`. At the first of the twelve points of a
   column tile the loop fills the scratch with the tile of weights (`wtile`); the other eleven read it back. -/
module

public import proofs.«01_k».proof.Proof.WordQuant
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [BitOps F]

local notation "𝕄" => MT nD τ sig Unit (Elt F) ℕ (UR sig nD τ) ℕ

/-! ## The loop's pieces -/

/-- One trip's pieces of the weight scratch do not depend on what the trip finds in the two scratch buffers. -/
theorem trip_indep (c : Dev nD) (i : grid1.Coords) (arg2 : Memref sig .tc .vmem S1024x7168 .bf16) (harg2 : arg2.IsWhole) (arg3 : Memref sig .tc .vmem S28x64x512 .i8) (harg3 : arg3.IsWhole) (arg4 : Memref sig .tc .vmem S28x32x512 .i8) (harg4 : arg4.IsWhole) (arg5 : Memref sig .tc .vmem S28x12x512 .i8) (harg5 : arg5.IsWhole) (arg6 : Memref sig .tc .vmem S28x512 .f32) (harg6 : arg6.IsWhole) (arg7 : Memref sig .tc .vmem S1024x512 .bf16) (harg7 : arg7.IsWhole) (arg8 : Memref sig .tc .vmem S7168x512 .bf16) (harg8 : arg8.IsWhole) (arg9 : Memref sig .tc .vmem S16x512 .i32) (harg9 : arg9.IsWhole) (h : k1_cond1 i = 1#1) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k1_t1_loop.trips)
    (f8 f8' : BufTy.Contents (Elt F) arg8.view.ty) (f9 f9' : BufTy.Contents (Elt F) arg9.view.ty) :
    (tripL_k1_t1 (F := F) Variants.none c none i arg2 harg2 arg3 harg3 arg4 harg4 arg5 harg5 arg6 harg6 arg7 harg7 arg8 harg8 arg9 harg9 h X_arg3 X_arg4 X_arg5 X_arg6 k f8 f9).1 = (tripL_k1_t1 (F := F) Variants.none c none i arg2 harg2 arg3 harg3 arg4 harg4 arg5 harg5 arg6 harg6 arg7 harg7 arg8 harg8 arg9 harg9 h X_arg3 X_arg4 X_arg5 X_arg6 k f8' f9').1 := by
  unfold tripL_k1_t1 trip_k1_t1; rfl

/-- The pieces of the trips before `k` do not depend on what the loop finds in the two scratch buffers. -/
theorem pb_indep (c : Dev nD) (i : grid1.Coords) (arg2 : Memref sig .tc .vmem S1024x7168 .bf16) (harg2 : arg2.IsWhole) (arg3 : Memref sig .tc .vmem S28x64x512 .i8) (harg3 : arg3.IsWhole) (arg4 : Memref sig .tc .vmem S28x32x512 .i8) (harg4 : arg4.IsWhole) (arg5 : Memref sig .tc .vmem S28x12x512 .i8) (harg5 : arg5.IsWhole) (arg6 : Memref sig .tc .vmem S28x512 .f32) (harg6 : arg6.IsWhole) (arg7 : Memref sig .tc .vmem S1024x512 .bf16) (harg7 : arg7.IsWhole) (arg8 : Memref sig .tc .vmem S7168x512 .bf16) (harg8 : arg8.IsWhole) (arg9 : Memref sig .tc .vmem S16x512 .i32) (harg9 : arg9.IsWhole) (h : k1_cond1 i = 1#1) (X_arg3 : BufTy.Contents (Elt F) arg3.view.ty) (X_arg4 : BufTy.Contents (Elt F) arg4.view.ty) (X_arg5 : BufTy.Contents (Elt F) arg5.view.ty) (X_arg6 : BufTy.Contents (Elt F) arg6.view.ty)
    (f8 f8' : BufTy.Contents (Elt F) arg8.view.ty) (f9 f9' : BufTy.Contents (Elt F) arg9.view.ty) :
    ∀ k : ℕ, k ≤ k1_t1_loop.trips → (pb_k1_t1 (F := F) Variants.none c none i arg2 harg2 arg3 harg3 arg4 harg4 arg5 harg5 arg6 harg6 arg7 harg7 arg8 harg8 arg9 harg9 h X_arg3 X_arg4 X_arg5 X_arg6 f8 f9 k).1 = (pb_k1_t1 (F := F) Variants.none c none i arg2 harg2 arg3 harg3 arg4 harg4 arg5 harg5 arg6 harg6 arg7 harg7 arg8 harg8 arg9 harg9 h X_arg3 X_arg4 X_arg5 X_arg6 f8' f9' k).1
  | 0, _ => rfl
  | k + 1, hk => by
    rw [pb_k1_t1_succ Variants.none c none i arg2 harg2 arg3 harg3 arg4 harg4 arg5 harg5 arg6 harg6 arg7 harg7 arg8 harg8 arg9 harg9 h X_arg3 X_arg4 X_arg5 X_arg6 f8 f9 ⟨k, hk⟩, pb_k1_t1_succ Variants.none c none i arg2 harg2 arg3 harg3 arg4 harg4 arg5 harg5 arg6 harg6 arg7 harg7 arg8 harg8 arg9 harg9 h X_arg3 X_arg4 X_arg5 X_arg6 f8' f9' ⟨k, hk⟩]
    exact congrArg₂ (· ++ ·) (trip_indep c i arg2 harg2 arg3 harg3 arg4 harg4 arg5 harg5 arg6 harg6 arg7 harg7 arg8 harg8 arg9 harg9 h X_arg3 X_arg4 X_arg5 X_arg6 ⟨k, hk⟩ _ _ _ _)
      (pb_indep c i arg2 harg2 arg3 harg3 arg4 harg4 arg5 harg5 arg6 harg6 arg7 harg7 arg8 harg8 arg9 harg9 h X_arg3 X_arg4 X_arg5 X_arg6 f8 f8' f9 f9' k (Nat.le_of_succ_le hk))

/-- The weight scratch's pieces after the whole loop, last first. -/
abbrev pieces1 (c : Dev nD) (i : grid1.Coords) (arg2 : Memref sig .tc .vmem S1024x7168 .bf16) (harg2 : arg2.IsWhole) (arg3 : Memref sig .tc .vmem S28x64x512 .i8) (harg3 : arg3.IsWhole) (arg4 : Memref sig .tc .vmem S28x32x512 .i8) (harg4 : arg4.IsWhole) (arg5 : Memref sig .tc .vmem S28x12x512 .i8) (harg5 : arg5.IsWhole) (arg6 : Memref sig .tc .vmem S28x512 .f32) (harg6 : arg6.IsWhole) (arg7 : Memref sig .tc .vmem S1024x512 .bf16) (harg7 : arg7.IsWhole) (arg8 : Memref sig .tc .vmem S7168x512 .bf16) (harg8 : arg8.IsWhole) (arg9 : Memref sig .tc .vmem S16x512 .i32) (harg9 : arg9.IsWhole) (h : k1_cond1 i = 1#1)
    (x1 : Vec F S28x64x512 .i8) (x2 : Vec F S28x32x512 .i8) (x3 : Vec F S28x12x512 .i8) (x4 : Vec F S28x512 .f32) : List (View.Piece (Elt F) S7168x512 .bf16) :=
  (pb_k1_t1 (F := F) Variants.none c none i arg2 harg2 arg3 harg3 arg4 harg4 arg5 harg5 arg6 harg6 arg7 harg7 arg8 harg8 arg9 harg9 h (harg3.unread x1) (harg4.unread x2) (harg5.unread x3) (harg6.unread x4) arg8.view.junk arg9.view.junk (Scf.trips k1_t1_loop.lb k1_t1_loop.ub k1_t1_loop.st)).1

/-- They cover the scratch: 448 blocks of 16 rows tile its 7168 rows. -/
theorem cover1_8 (c : Dev nD) (i : grid1.Coords) (arg2 : Memref sig .tc .vmem S1024x7168 .bf16) (harg2 : arg2.IsWhole) (arg3 : Memref sig .tc .vmem S28x64x512 .i8) (harg3 : arg3.IsWhole) (arg4 : Memref sig .tc .vmem S28x32x512 .i8) (harg4 : arg4.IsWhole) (arg5 : Memref sig .tc .vmem S28x12x512 .i8) (harg5 : arg5.IsWhole) (arg6 : Memref sig .tc .vmem S28x512 .f32) (harg6 : arg6.IsWhole) (arg7 : Memref sig .tc .vmem S1024x512 .bf16) (harg7 : arg7.IsWhole) (arg8 : Memref sig .tc .vmem S7168x512 .bf16) (harg8 : arg8.IsWhole) (arg9 : Memref sig .tc .vmem S16x512 .i32) (harg9 : arg9.IsWhole) (h : k1_cond1 i = 1#1)
    (x1 : Vec F S28x64x512 .i8) (x2 : Vec F S28x32x512 .i8) (x3 : Vec F S28x12x512 .i8) (x4 : Vec F S28x512 .f32) (y : S7168x512.Idx) :
    ∃ pc ∈ pieces1 (F := F) c i arg2 harg2 arg3 harg3 arg4 harg4 arg5 harg5 arg6 harg6 arg7 harg7 arg8 harg8 arg9 harg9 h x1 x2 x3 x4, y ∈ pc.1.set :=
  View.cover_of_tiledL _ ![16, 512] (by sl_kernel_rfl) y

/-! ## The body's triple, at the two kinds of points -/

set_option maxHeartbeats 1000000 in
/-- At the first point of a column tile: on whole memrefs with the inputs at `x0` … `x4` and everything else at any
    contents, the body runs to the continuation holding the inputs as they were, the weight scratch at what the loop's
    pieces leave, and the result at the product of `x0` with it. -/
theorem kernelRun1_A (c : Dev nD) (i : grid1.Coords) (arg2 : Memref sig .tc .vmem S1024x7168 .bf16) (harg2 : arg2.IsWhole) (arg3 : Memref sig .tc .vmem S28x64x512 .i8) (harg3 : arg3.IsWhole) (arg4 : Memref sig .tc .vmem S28x32x512 .i8) (harg4 : arg4.IsWhole) (arg5 : Memref sig .tc .vmem S28x12x512 .i8) (harg5 : arg5.IsWhole) (arg6 : Memref sig .tc .vmem S28x512 .f32) (harg6 : arg6.IsWhole) (arg7 : Memref sig .tc .vmem S1024x512 .bf16) (harg7 : arg7.IsWhole) (arg8 : Memref sig .tc .vmem S7168x512 .bf16) (harg8 : arg8.IsWhole) (arg9 : Memref sig .tc .vmem S16x512 .i32) (harg9 : arg9.IsWhole) (h : k1_cond1 i = 1#1)
    (x0 : Vec F S1024x7168 .bf16) (x1 : Vec F S28x64x512 .i8) (x2 : Vec F S28x32x512 .i8) (x3 : Vec F S28x12x512 .i8) (x4 : Vec F S28x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare (k1_pay3 x0 (View.canon (pieces1 c i arg2 harg2 arg3 harg3 arg4 harg4 arg5 harg5 arg6 harg6 arg7 harg7 arg8 harg8 arg9 harg9 h x1 x2 x3 x4)))
                ∗ owns (c : Thread nD τ) arg8 fullShare (View.canon (pieces1 c i arg2 harg2 arg3 harg3 arg4 harg4 arg5 harg5 arg6 harg6 arg7 harg7 arg8 harg8 arg9 harg9 h x1 x2 x3 x4))
                ∗ (∃ d, owns (c : Thread nD τ) arg9 fullShare d)) -∗ K ⟨⟩))
          ⊢ wp frame (wpE (defs₀ (F := F)) Variants.none c none) E (cc1_matmul i arg2 harg2 arg3 harg3 arg4 harg4 arg5 harg5 arg6 harg6 arg7 harg7 arg8 harg8 arg9 harg9) K := by
  intro E K
  simp only [cc1_matmul_eq_skeleton]; unfold cc1_matmul_skel
  rw [dif_pos h]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  obtain rfl := harg2.eq_unread hf0; obtain rfl := harg3.eq_unread hf1; obtain rfl := harg4.eq_unread hf2
  obtain rfl := harg5.eq_unread hf3; obtain rfl := harg6.eq_unread hf4
  sl_exec
  sl_step
  have hp : (pb_k1_t1 (F := F) Variants.none c none i arg2 harg2 arg3 harg3 arg4 harg4 arg5 harg5 arg6 harg6 arg7 harg7 arg8 harg8 arg9 harg9 h (harg3.unread x1) (harg4.unread x2) (harg5.unread x3) (harg6.unread x4) f8 f9 (Scf.trips k1_t1_loop.lb k1_t1_loop.ub k1_t1_loop.st)).1
      = pieces1 c i arg2 harg2 arg3 harg3 arg4 harg4 arg5 harg5 arg6 harg6 arg7 harg7 arg8 harg8 arg9 harg9 h x1 x2 x3 x4 :=
    pb_indep c i arg2 harg2 arg3 harg3 arg4 harg4 arg5 harg5 arg6 harg6 arg7 harg7 arg8 harg8 arg9 harg9 h (harg3.unread x1) (harg4.unread x2) (harg5.unread x3) (harg6.unread x4) f8 _ f9 _ _ le_rfl
  have hw : arg8.view.read (Elt F) (arg8.view.writes (Elt F) f8 (pb_k1_t1 (F := F) Variants.none c none i arg2 harg2 arg3 harg3 arg4 harg4 arg5 harg5 arg6 harg6 arg7 harg7 arg8 harg8 arg9 harg9 h (harg3.unread x1) (harg4.unread x2) (harg5.unread x3) (harg6.unread x4) f8 f9 (Scf.trips k1_t1_loop.lb k1_t1_loop.ub k1_t1_loop.st)).1)
      = View.canon (pieces1 c i arg2 harg2 arg3 harg3 arg4 harg4 arg5 harg5 arg6 harg6 arg7 harg7 arg8 harg8 arg9 harg9 h x1 x2 x3 x4) := by
    rw [hp]; exact View.read_writes_eq_canon _ _ _ (cover1_8 c i arg2 harg2 arg3 harg3 arg4 harg4 arg5 harg5 arg6 harg6 arg7 harg7 arg8 harg8 arg9 harg9 h x1 x2 x3 x4)
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [View.read_writes_eq_canon _ _ _ (fun y => ⟨_, List.mem_singleton_self _, View.mem_set_unit_zero zero2 inb_S1024x512_S1024x512_0_0 y⟩),
      View.canon_unit_zero zero2, View.readAt_eq_ld, View.readAt_eq_ld, View.ld_unit_zero zero2, View.ld_unit_zero zero2, harg2.read_unread, hw]
  isplitl [H8]
  · iexists _; isplitr; swap; · iexact H8
    ipureintro; exact hw
  iexists _, _; isplitr; swap; · iexact H9
  ipureintro; rfl

set_option maxHeartbeats 1000000 in
/-- At the other points: the weight scratch is read at its contents `w` and kept; the result is the product of `x0` with
    it. -/
theorem kernelRun1_B (c : Dev nD) (i : grid1.Coords) (arg2 : Memref sig .tc .vmem S1024x7168 .bf16) (harg2 : arg2.IsWhole) (arg3 : Memref sig .tc .vmem S28x64x512 .i8) (harg3 : arg3.IsWhole) (arg4 : Memref sig .tc .vmem S28x32x512 .i8) (harg4 : arg4.IsWhole) (arg5 : Memref sig .tc .vmem S28x12x512 .i8) (harg5 : arg5.IsWhole) (arg6 : Memref sig .tc .vmem S28x512 .f32) (harg6 : arg6.IsWhole) (arg7 : Memref sig .tc .vmem S1024x512 .bf16) (harg7 : arg7.IsWhole) (arg8 : Memref sig .tc .vmem S7168x512 .bf16) (harg8 : arg8.IsWhole) (arg9 : Memref sig .tc .vmem S16x512 .i32) (harg9 : arg9.IsWhole) (h : ¬ k1_cond1 i = 1#1)
    (x0 : Vec F S1024x7168 .bf16) (x1 : Vec F S28x64x512 .i8) (x2 : Vec F S28x32x512 .i8) (x3 : Vec F S28x12x512 .i8) (x4 : Vec F S28x512 .f32) (w : Vec F S7168x512 .bf16) :
      ∀ (E : Set ℕ) (K : PUnit → sProp 𝕄),
        iprop(owns (c : Thread nD τ) arg2 fullShare x0
            ∗ (∃ d, owns (c : Thread nD τ) arg7 fullShare d) ∗ owns (c : Thread nD τ) arg8 fullShare w
            ∗ (iprop(owns (c : Thread nD τ) arg2 fullShare x0
                ∗ owns (c : Thread nD τ) arg7 fullShare (k1_pay3 x0 w)
                ∗ owns (c : Thread nD τ) arg8 fullShare w) -∗ K ⟨⟩))
          ⊢ wp frame (wpE (defs₀ (F := F)) Variants.none c none) E (cc1_matmul i arg2 harg2 arg3 harg3 arg4 harg4 arg5 harg5 arg6 harg6 arg7 harg7 arg8 harg8 arg9 harg9) K := by
  intro E K
  simp only [cc1_matmul_eq_skeleton]; unfold cc1_matmul_skel
  rw [dif_neg h]
  unfold owns
  iintro ⟨⟨%f0, %hf0, H0⟩, ⟨%d5, %f5, -, H5⟩, ⟨%f8, %hf8, H8⟩, Hk⟩
  obtain rfl := harg2.eq_unread hf0; obtain rfl := harg8.eq_unread hf8
  sl_exec
  sl_step
  sl_unfold_run_names
  iapply Hk
  isplitl [H0]
  · iexists _; isplitr; · ipureintro; exact harg2.read_unread _
    iexact H0
  isplitl [H5]
  · iexists _; isplitr; swap; · iexact H5
    ipureintro
    rw [View.read_writes_eq_canon _ _ _ (fun y => ⟨_, List.mem_singleton_self _, View.mem_set_unit_zero zero2 inb_S1024x512_S1024x512_0_0 y⟩),
      View.canon_unit_zero zero2, View.readAt_eq_ld, View.readAt_eq_ld, View.ld_unit_zero zero2, View.ld_unit_zero zero2, harg2.read_unread, harg8.read_unread]
  iexists _; isplitr; swap; · iexact H8
  ipureintro; exact harg8.read_unread _

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, and its wholeness. -/
abbrev ms1_0 (t : Fin cfg1.N) : Memref sig .tc .vmem S1024x7168 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S28x64x512 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S28x32x512 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S28x12x512 .i8 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S28x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .bf16 := win1_5.stage (cfg1.slots t 5)
abbrev hs1_5 (t : Fin cfg1.N) : (ms1_5 t).IsWhole := hstage1_5 ((cfg1.slots t 5).cast nbuf1_5)
/-- The scratch buffers of the weights and of the group scales. -/
abbrev scM1_0 : Memref sig .tc .vmem S7168x512 .bf16 := Memref.whole cc1_scratch0
abbrev scM1_1 : Memref sig .tc .vmem S16x512 .i32 := Memref.whole cc1_scratch1

/-! ## What the weight scratch and the result hold -/

/-- The loop runs at the points that are multiples of twelve: the first of each column tile. -/
theorem hcond1 : ∀ t : Fin cfg1.N, k1_cond1 (grid1.coords t) = 1#1 ↔ t.val % 12 = 0 :=
  (by decide +kernel : ∀ t : Fin grid1.N, k1_cond1 (grid1.coords t) = 1#1 ↔ t.val % 12 = 0)

/-- The first point of point `t`'s column tile. -/
def base1 (t : Fin cfg1.N) : Fin cfg1.N := ⟨12 * (t.val / 12), by have := t.isLt; omega⟩

theorem base1_cond (t : Fin cfg1.N) : k1_cond1 (grid1.coords (base1 t)) = 1#1 :=
  (hcond1 (base1 t)).mpr (by simp [base1])

/-- The weight tile the scratch holds after a point `t` at which the loop has run. -/
def wfill (c : Dev nD) (t : Fin cfg1.N) (h : k1_cond1 (grid1.coords t) = 1#1) : Vec F S7168x512 .bf16 :=
  View.canon (pieces1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) h (iblk1 V c 1 t) (iblk1 V c 2 t) (iblk1 V c 3 t) (iblk1 V c 4 t))

/-- The weight tile the scratch holds after point `t`: what the loop filled in at the tile's first point. -/
def wtile (c : Dev nD) (t : Fin cfg1.N) : Vec F S7168x512 .bf16 := wfill V c (base1 t) (base1_cond t)

/-- The result's buffer after point `t`. -/
def out1_5 (c : Dev nD) (t : Fin cfg1.N) : Vec F S1024x512 .bf16 := k1_pay3 (iblk1 V c 0 t) (wtile V c t)

/-- At a tile's first point the tile's weights are that point's. -/
theorem wtile_first (c : Dev nD) (t : Fin cfg1.N) (h : k1_cond1 (grid1.coords t) = 1#1) : wtile V c t = wfill V c t h := by
  have e : base1 t = t := Fin.ext (by have := (hcond1 t).mp h; simp only [base1]; omega)
  unfold wtile; congr 1

/-- At any other point they are the previous point's. -/
theorem wtile_next (c : Dev nD) (t t' : Fin cfg1.N) (ht : t.val = t'.val + 1) (h : ¬ k1_cond1 (grid1.coords t) = 1#1) : wtile V c t = wtile V c t' := by
  have e : base1 t = base1 t' := Fin.ext (by have := mt (hcond1 t).mpr h; simp only [base1]; omega)
  unfold wtile; congr 1

/-- The weight scratch between the points: at any contents before the first point, at the tile's weights after a point. -/
def wheld (c : Dev nD) : (n : ℕ) → (hn : n < cfg1.N + 1) → sProp 𝕄
  | 0, _ => iprop(∃ d, owns (c : Thread nD τ) scM1_0 fullShare d)
  | n + 1, hn => owns (c : Thread nD τ) scM1_0 fullShare (wtile V c ⟨n, Nat.lt_of_succ_lt_succ hn⟩)

theorem wheld_any (c : Dev nD) (n : ℕ) (hn : n < cfg1.N + 1) : wheld V c n hn ⊢ iprop(∃ d, owns (c : Thread nD τ) scM1_0 fullShare d) := by
  cases n with
  | zero => exact .rfl
  | succ n => unfold wheld; iintro H; iexists _; iexact H

/-- The invariant of the second pipeline: the other pipeline's buffers and the scale scratch at some contents, the weight
    scratch as `wheld` says, the generator register at some state. -/
def Phi1 (c : Dev nD) (t : Fin (cfg1.N + 1)) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f)) ∗ wheld V c t.val t.isLt ∗ (∃ d, owns (c : Thread nD τ) scM1_1 fullShare d) ∗ (∃ r, prngReg c r))

/-- The class's invariant, with the two scratch buffers as owned memrefs. -/
theorem scopedRest1_owns (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ d, owns (c : Thread nD τ) scM1_1 fullShare d)) := by
  rw [scopedRest1_eq]; simp only [scM1_0, scM1_1, owns_whole]; try rfl

/-! ## The proof data and the body obligation -/

/-- The proof data of the second pipeline: the arrays as the region finds them; after the body at point `t` each input's
    buffer at its block and the result's at `out1_5`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 V c t
  Φ t := Phi1 V c t
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 V c t := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

/-- The body at any point: at a tile's first point the loop's run, at the others the run that keeps the weight scratch. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = Phi1 V c t.succ from rfl, show (dat1 V c).Φ t.castSucc = Phi1 V c t.castSucc from rfl,
    show (dat1 V c).owesAt () t.succ = (dat1 V c).owesAt () t.castSucc from rfl,
    after1_0, after1_1, after1_2, after1_3, after1_4, after1_5]
  unfold Phi1 out1_5
  rw [show wheld V c t.succ.val t.succ.isLt = owns (c : Thread nD τ) scM1_0 fullShare (wtile V c t) from rfl]
  by_cases h : k1_cond1 (grid1.coords t) = 1#1
  · rw [wtile_first V c t h]
    unfold wfill
    iintro ⟨⟨HR, HW, HG, Hp⟩, Ho, ⟨%d0, H0⟩, ⟨%d1, H1⟩, ⟨%d2, H2⟩, ⟨%d3, H3⟩, ⟨%d4, H4⟩, ⟨%d5, H5⟩⟩
    ihave HW' := (wheld_any V c _ _) $$ HW
    iapply (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) h (iblk1 V c 0 t) (iblk1 V c 1 t) (iblk1 V c 2 t) (iblk1 V c 3 t) (iblk1 V c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [HW']; · iexact HW'
    isplitl [HG]; · iexact HG
    iintro ⟨H0, H1, H2, H3, H4, H5, HW, HG⟩
    isplitl [HR HW HG Hp]
    · isplitl [HR]; · iexact HR
      isplitl [HW]; · iexact HW
      isplitl [HG]; · iexact HG
      iexact Hp
    isplitl [Ho]; · iexact Ho
    isplitl [H0]; · iexact H0
    isplitl [H1]; · iexact H1
    isplitl [H2]; · iexact H2
    isplitl [H3]; · iexact H3
    isplitl [H4]; · iexact H4
    iexact H5
  · obtain ⟨n, hn, ht⟩ : ∃ (n : ℕ) (hn : n < cfg1.N), t.val = n + 1 := by
      have h0 : t.val ≠ 0 := fun e => h ((hcond1 t).mpr (by rw [e]))
      exact ⟨t.val - 1, by have := t.isLt; omega, by omega⟩
    have hw : wheld V c t.castSucc.val t.castSucc.isLt = owns (c : Thread nD τ) scM1_0 fullShare (wtile V c t) := by
      rw [wtile_next V c t ⟨n, hn⟩ ht h]
      have key : ∀ (a : ℕ) (ha : a < cfg1.N + 1) (e : a = n + 1), wheld V c a ha = owns (c : Thread nD τ) scM1_0 fullShare (wtile V c ⟨n, hn⟩) := by
        intro a ha e; subst e; rfl
      exact key _ _ ht
    rw [hw]
    iintro ⟨⟨HR, HW, HG, Hp⟩, Ho, ⟨%d0, H0⟩, ⟨%d1, H1⟩, ⟨%d2, H2⟩, ⟨%d3, H3⟩, ⟨%d4, H4⟩, ⟨%d5, H5⟩⟩
    iapply (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) h (iblk1 V c 0 t) (iblk1 V c 1 t) (iblk1 V c 2 t) (iblk1 V c 3 t) (iblk1 V c 4 t) (wtile V c t) Set.univ _)
    isplitl [H0]; · iexact H0
    isplitl [H5]; · iexists _; iexact H5
    isplitl [HW]; · iexact HW
    iintro ⟨H0, H5, HW⟩
    isplitl [HR HW HG Hp]
    · isplitl [HR]; · iexact HR
      isplitl [HW]; · iexact HW
      isplitl [HG]; · iexact HG
      iexact Hp
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Region

end Cert.Kernel.Whole

end
-- ==== Proof.WordRun.lean ====
/- The run of `Kernel` from the launch to the return: what the core's buffers hold at each boundary of @main (`B0` at
   the launch, `B1` after the first two reshapes, `B2` after the quantiser's call, `B3` after the transposes, `B4` after
   the matrix product's call, `B5` after the results' reshapes), the two calls as segments, the launch theorem `run` (every
   execution terminates with the buffers at `B5` and the counters at zero) and the frame. -/
module

public import proofs.«01_k».proof.Proof.WordMatmul
public import proofs.«01_k».proof.Proof.Gen.Kernel.Regions
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.Value
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [BitOps F]

local notation "𝕄" => MT nD τ sig Unit (Elt F) ℕ (UR sig nD τ) ℕ

variable (m : (ℓ : Loc nD τ sig) → Buf (Elt F) ℓ)

/-! ## The buffers at each boundary -/

/-- The argument arrays. -/
abbrev argRefs : List (Ref sig .tc) := [main_arg0, main_arg1, main_arg2, main_arg3, main_arg4, main_arg5]

/-- Core `c`'s buffers at the launch, -/
abbrev B0 : Dev nD → Valuation τ sig (Elt F) := fun c b => m ((c : Dev nD), b)
/-- after the first host operations, -/
def B1 (c : Dev nD) : Valuation τ sig (Elt F) := StableHlo.after hostOps0 (B0 m c)
/-- the same read at the TensorCore's references, -/
abbrev E1 : (c : Dev nD) → (b : Ref sig .tc) → Buf (Elt F) ((c : Thread nD τ).loc b) := fun c b => B1 m c b
/-- after the quantiser's call, -/
def B2 (c : Dev nD) : Valuation τ sig (Elt F) := Pipeline.withArrays spec0 c (B1 m c) fun w => (dat0 (E1 m) c).arrAt w cfg0.N
abbrev E2 : (c : Dev nD) → (b : Ref sig .tc) → Buf (Elt F) ((c : Thread nD τ).loc b) := fun c b => B2 m c b
/-- after the transposes, -/
def B3 (c : Dev nD) : Valuation τ sig (Elt F) := StableHlo.after hostOps1 (B2 m c)
abbrev E3 : (c : Dev nD) → (b : Ref sig .tc) → Buf (Elt F) ((c : Thread nD τ).loc b) := fun c b => B3 m c b
/-- after the matrix product's call, -/
def B4 (c : Dev nD) : Valuation τ sig (Elt F) := Pipeline.withArrays spec1 c (B3 m c) fun w => (dat1 (E3 m) c).arrAt w cfg1.N
abbrev E4 : (c : Dev nD) → (b : Ref sig .tc) → Buf (Elt F) ((c : Thread nD τ).loc b) := fun c b => B4 m c b
/-- and at the return. -/
def B5 (c : Dev nD) : Valuation τ sig (Elt F) := StableHlo.after hostOps2 (B4 m c)

/-- A buffer the first host operations do not write is as launched. -/
theorem B1_of (c : Dev nD) (r : Ref sig .tc) (h : r ∉ hostOps0_W) : B1 m c (Proc.devRef .tc r) = B0 m c (Proc.devRef .tc r) :=
  StableHlo.after_of_writes_sub hostOps0 _ hostOps0_writes h
/-- An array of call 0 holds at its end what the pipeline leaves. -/
theorem B2_arr (c : Dev nD) (w : Fin cfg0.W) : B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- A buffer that is none of call 0's result arrays is as before it. -/
theorem B2_of (c : Dev nD) (r : Ref sig .tc) (h : ∀ w : Fin cfg0.W, Pipeline.arrRef spec0 w = r → (cfg0.win w).isOut = false) :
    B2 m c (Proc.devRef .tc r) = B1 m c (Proc.devRef .tc r) := by
  by_cases hw : ∃ w : Fin cfg0.W, Pipeline.arrRef spec0 w = r
  · obtain ⟨w, rfl⟩ := hw
    exact (B2_arr m c w).trans (((dat0 (E1 m) c).arrAt_in w (h w rfl) _).trans (A_eq0 (E1 m) c w))
  · exact B2_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- A buffer the transposes do not write is as before them. -/
theorem B3_of (c : Dev nD) (r : Ref sig .tc) (h : r ∉ hostOps1_W) : B3 m c (Proc.devRef .tc r) = B2 m c (Proc.devRef .tc r) :=
  StableHlo.after_of_writes_sub hostOps1 _ hostOps1_writes h
/-- An array of call 1 holds at its end what the pipeline leaves. -/
theorem B4_arr (c : Dev nD) (w : Fin cfg1.W) : B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
/-- A buffer that is none of call 1's result arrays is as before it. -/
theorem B4_of (c : Dev nD) (r : Ref sig .tc) (h : ∀ w : Fin cfg1.W, Pipeline.arrRef spec1 w = r → (cfg1.win w).isOut = false) :
    B4 m c (Proc.devRef .tc r) = B3 m c (Proc.devRef .tc r) := by
  by_cases hw : ∃ w : Fin cfg1.W, Pipeline.arrRef spec1 w = r
  · obtain ⟨w, rfl⟩ := hw
    exact (B4_arr m c w).trans (((dat1 (E3 m) c).arrAt_in w (h w rfl) _).trans (A_eq1 (E3 m) c w))
  · exact B4_of_ne m c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem hF1 (c : Dev nD) (w : Fin cfg1.W) : (dat1 (E3 m) c).arrAt w cfg1.N = E4 m c (Pipeline.arrRef spec1 w) :=
  (B4_arr m c w).symm
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)
/-- A buffer the last host operations do not write is as before them. -/
theorem B5_of (c : Dev nD) (r : Ref sig .tc) (h : r ∉ hostOps2_W) : B5 m c (Proc.devRef .tc r) = B4 m c (Proc.devRef .tc r) :=
  StableHlo.after_of_writes_sub hostOps2 _ hostOps2_writes h

/-- Each argument is as launched at every boundary. -/
theorem B5_args (c : Dev nD) : ∀ a ∈ argRefs, B5 m c (Proc.devRef .tc a) = m ((c : Thread nD τ).loc a) := fun a ha =>
  have n0 : a ∉ hostOps0_W := (by decide : ∀ a ∈ argRefs, a ∉ hostOps0_W) a ha
  have n1 : a ∉ hostOps1_W := (by decide : ∀ a ∈ argRefs, a ∉ hostOps1_W) a ha
  have n2 : a ∉ hostOps2_W := (by decide : ∀ a ∈ argRefs, a ∉ hostOps2_W) a ha
  (B5_of m c a n2).trans ((B4_of m c a (argsIn1 a ha)).trans ((B3_of m c a n1).trans ((B2_of m c a (argsIn0 a ha)).trans (B1_of m c a n0))))

/-! ## The proof data family and the thread state -/

/-- No pipeline has a prefetched table. -/
abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (B5 m c) ∗ ∃ r, prngReg c r)

/-! ## The calls as segments -/

set_option backward.isDefEq.respectTransparency.types false in
/-- Call 0: entered from every unscoped buffer at `B1`, left at `B2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) (A_eq0 (E1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1: entered from every unscoped buffer at `B3`, left at `B4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) (A_eq1 (E3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Phi1 (E3 m) c 0 from rfl]; unfold Phi1
    rw [show wheld (E3 m) c (0 : Fin (cfg1.N + 1)).val (0 : Fin (cfg1.N + 1)).isLt = iprop(∃ d, owns (c : Thread nD τ) scM1_0 fullShare d) from rfl]
    iintro ⟨Hp, -, Hr⟩
    ihave H := (Entails.of_eq (scopedRest1_owns (F := F) c)) $$ Hr
    icases H with ⟨R0, R1, R2, R3, R4, R5, R6, R7, R8, R9, HW, HG⟩
    isplitl [R0 R1 R2 R3 R4 R5 R6 R7 R8 R9]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      iexact R9
    isplitl [HW]; · iexact HW
    isplitl [HG]; · iexact HG
    iexact Hp
  hout c := by
    rw [Pipeline.ownSems0_none, show (pdats m 1 c).Φ (Fin.last _) = Phi1 (E3 m) c (Fin.last _) from rfl]; unfold Phi1
    iintro ⟨⟨R0, R1, R2, R3, R4, R5, R6, R7, R8, R9⟩, HW, HG, Hp⟩
    ihave HW' := (wheld_any (E3 m) c _ _) $$ HW
    isplitl [Hp]; · iexact Hp
    isplitr; · iempintro
    iapply (Entails.of_eq (scopedRest1_owns (F := F) c).symm)
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [HW']; · iexact HW'
    iexact HG
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)) ]
/-- @main is the run of the segments. -/
theorem main_run (c : Dev nD) : main (F := F) c = Pipeline.Seg.run (segs m) := (main_chain c).trans (by chain_rfl)

/-- The TensorCore has no unscoped semaphore. -/
theorem no_unscoped : ∀ sm : SemLoc sig, sm.isScoped .tc = true := by decide

set_option backward.isDefEq.respectTransparency.types false in
/-- The launch: from any memory with zero counters every weakly fair execution of @main terminates, and every final state
    holds each unscoped buffer at `B5`, with every semaphore counter at zero. -/
theorem run (ρ : Dev nD → PrngReg) : θ_run defs (onTc (τ := τ) (main (F := F))) ⟨m, fun _ => 0, ρ⟩ (fun r =>
      (∀ c : Dev nD, ∀ b ∈ Pipeline.ucRefs τ sig, r.2.mem (((c : Thread nD τ)).1, b) = B5 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (B5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h hz => ⟨fun c => h c, funext fun g => hz g (.inr (no_unscoped g.2))⟩)

/-- The frame: every execution terminates, the argument arrays end as launched and every counter at zero. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    have g (b : Ref sig .tc) (hb : ¬ (Proc.devRef .tc b : DevRef τ sig).isScoped) (ha : b ∈ argRefs) :
        r.2.mem ((c.tc : Thread nD τ).loc b) = m ((c.tc : Thread nD τ).loc b) := (h.1 c _ (mem_uc b hb)).trans (B5_args m c b ha)
    ⟨g main_arg0 (by decide) (by decide), g main_arg1 (by decide) (by decide), g main_arg2 (by decide) (by decide), g main_arg3 (by decide) (by decide), g main_arg4 (by decide) (by decide), g main_arg5 (by decide) (by decide)⟩, h.2⟩) (run m ρ)

end Cert.Kernel.Whole

end
-- ==== Proof.IdealQuant.lean ====
/- The first pallas_call of `KernelIdeal` (the quantiser), at any contents `V` of the core's buffers when the region is
   entered: each window's block at a point, what the body leaves in the three result buffers, the proof data `dat0`
   of the pipeline and its obligation `body_obligation0`. The counted loop over the eight chunks of 32 rows runs by
   its invariant (`Gen.loopInv_k0_t1`); its pieces tile each result's buffer. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The current staging buffer of the x window holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The current staging buffer of the gain window holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

/-- Each window's current staging memref at point `t`, and its wholeness. -/
abbrev ms0_0 (t : Fin cfg0.N) : Memref sig .tc .vmem S256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x7168 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x7168 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x28x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x7168 .bf16 := win0_4.stage (cfg0.slots t 4)
abbrev hs0_4 (t : Fin cfg0.N) : (ms0_4 t).IsWhole := hstage0_4 ((cfg0.slots t 4).cast nbuf0_4)
/-- The scratch buffer of the scales. -/
abbrev scM0_0 : Memref sig .tc .vmem S256x128 .f32 := Memref.whole cc0_scratch0

/-- The pieces the loop's eight trips store, last first: codes, products and scales. -/
abbrev pieces0 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S256x7168 .i8) (harg3 : arg3.IsWhole) (arg4 : Memref sig .tc .vmem S1x28x256 .f32) (harg4 : arg4.IsWhole) (arg5 : Memref sig .tc .vmem S256x7168 .bf16) (harg5 : arg5.IsWhole) (arg6 : Memref sig .tc .vmem S256x128 .f32) (harg6 : arg6.IsWhole)
    (x0 : Vec F S256x7168 .bf16) (x1 : Vec F S1x7168 .f32) :
    List (View.Piece (Elt F) S256x7168 .i8) × List (View.Piece (Elt F) S256x7168 .bf16) × List (View.Piece (Elt F) S256x128 .f32) :=
  pb_k0_t1 (F := F) Variants.none c none i arg1 harg1 arg2 harg2 arg3 harg3 arg4 harg4 arg5 harg5 arg6 harg6
    (harg1.unread x0) (harg2.unread x1) (Scf.trips k0_t1_loop.lb k0_t1_loop.ub k0_t1_loop.st)

/-- The codes' pieces cover their buffer: blocks of 32 rows by 256 columns tile it. -/
theorem cover0_2 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S256x7168 .i8) (harg3 : arg3.IsWhole) (arg4 : Memref sig .tc .vmem S1x28x256 .f32) (harg4 : arg4.IsWhole) (arg5 : Memref sig .tc .vmem S256x7168 .bf16) (harg5 : arg5.IsWhole) (arg6 : Memref sig .tc .vmem S256x128 .f32) (harg6 : arg6.IsWhole)
    (x0 : Vec F S256x7168 .bf16) (x1 : Vec F S1x7168 .f32) (y : S256x7168.Idx) :
    ∃ pc ∈ (pieces0 c i arg1 harg1 arg2 harg2 arg3 harg3 arg4 harg4 arg5 harg5 arg6 harg6 x0 x1).1, y ∈ pc.1.set :=
  View.cover_of_tiledL _ ![32, 256] (by sl_kernel_rfl) y
/-- The products' pieces cover their buffer. -/
theorem cover0_4 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S256x7168 .i8) (harg3 : arg3.IsWhole) (arg4 : Memref sig .tc .vmem S1x28x256 .f32) (harg4 : arg4.IsWhole) (arg5 : Memref sig .tc .vmem S256x7168 .bf16) (harg5 : arg5.IsWhole) (arg6 : Memref sig .tc .vmem S256x128 .f32) (harg6 : arg6.IsWhole)
    (x0 : Vec F S256x7168 .bf16) (x1 : Vec F S1x7168 .f32) (y : S256x7168.Idx) :
    ∃ pc ∈ (pieces0 c i arg1 harg1 arg2 harg2 arg3 harg3 arg4 harg4 arg5 harg5 arg6 harg6 x0 x1).2.1, y ∈ pc.1.set :=
  View.cover_of_tiledL _ ![32, 256] (by sl_kernel_rfl) y
/-- The scales' pieces cover their scratch: blocks of 32 rows tile it. -/
theorem cover0_6 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S256x7168 .i8) (harg3 : arg3.IsWhole) (arg4 : Memref sig .tc .vmem S1x28x256 .f32) (harg4 : arg4.IsWhole) (arg5 : Memref sig .tc .vmem S256x7168 .bf16) (harg5 : arg5.IsWhole) (arg6 : Memref sig .tc .vmem S256x128 .f32) (harg6 : arg6.IsWhole)
    (x0 : Vec F S256x7168 .bf16) (x1 : Vec F S1x7168 .f32) (y : S256x128.Idx) :
    ∃ pc ∈ (pieces0 c i arg1 harg1 arg2 harg2 arg3 harg3 arg4 harg4 arg5 harg5 arg6 harg6 x0 x1).2.2, y ∈ pc.1.set :=
  View.cover_of_tiledL _ ![32, 128] (by sl_kernel_rfl) y

theorem zero3 : (![0, 0, 0] : Fin 3 → ℕ) = fun _ => 0 := by decide
theorem zero2 : (![0, 0] : Fin 2 → ℕ) = fun _ => 0 := by decide

set_option maxHeartbeats 1000000 in
/-- The body's triple: on whole staging memrefs with the inputs at `x0` and `x1` and everything else at any contents, the
    body runs to the continuation holding the inputs as they were, the codes' and the products' buffers at what the
    loop's pieces leave, and the scales' buffer at the transposed scratch. -/
theorem kernelRun0 (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S256x7168 .i8) (harg3 : arg3.IsWhole) (arg4 : Memref sig .tc .vmem S1x28x256 .f32) (harg4 : arg4.IsWhole) (arg5 : Memref sig .tc .vmem S256x7168 .bf16) (harg5 : arg5.IsWhole) (arg6 : Memref sig .tc .vmem S256x128 .f32) (harg6 : arg6.IsWhole)
    (x0 : Vec F S256x7168 .bf16) (x1 : Vec F S1x7168 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ owns (c : Thread nD τ) arg3 fullShare (View.canon (pieces0 c i arg1 harg1 arg2 harg2 arg3 harg3 arg4 harg4 arg5 harg5 arg6 harg6 x0 x1).1)
                ∗ owns (c : Thread nD τ) arg4 fullShare (k0_pay4 (View.canon (pieces0 c i arg1 harg1 arg2 harg2 arg3 harg3 arg4 harg4 arg5 harg5 arg6 harg6 x0 x1).2.2))
                ∗ owns (c : Thread nD τ) arg5 fullShare (View.canon (pieces0 c i arg1 harg1 arg2 harg2 arg3 harg3 arg4 harg4 arg5 harg5 arg6 harg6 x0 x1).2.1)
                ∗ (∃ d, owns (c : Thread nD τ) arg6 fullShare d)) -∗ K ⟨⟩))
          ⊢ wp frame (wpE (defs₀ (F := F)) Variants.none c none) E (cc0_quant i arg1 harg1 arg2 harg2 arg3 harg3 arg4 harg4 arg5 harg5 arg6 harg6) K := by
  intro E K
  simp only [cc0_quant_eq_skeleton]; unfold cc0_quant_skel
  unfold owns
  iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, Hk⟩
  obtain rfl := harg1.eq_unread hf0; obtain rfl := harg2.eq_unread hf1
  sl_exec
  sl_step
  have hs : (arg6.view.readAt (Elt F) (Rect.unit ![0, 0] S256x128.size inb_S256x128_S256x128_0_0).toLoadRect
      (arg6.view.writes (Elt F) fs0 (pieces0 c i arg1 harg1 arg2 harg2 arg3 harg3 arg4 harg4 arg5 harg5 arg6 harg6 x0 x1).2.2) : Vec F S256x128 .f32)
      = View.canon (pieces0 c i arg1 harg1 arg2 harg2 arg3 harg3 arg4 harg4 arg5 harg5 arg6 harg6 x0 x1).2.2 := by
    rw [View.readAt_eq_ld, View.read_writes_eq_canon _ _ _ (cover0_6 c i arg1 harg1 arg2 harg2 arg3 harg3 arg4 harg4 arg5 harg5 arg6 harg6 x0 x1)]
    exact View.ld_unit_zero zero2 _ _
  sl_unfold_run_names
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    exact View.read_writes_eq_canon _ _ _ (cover0_2 c i arg1 harg1 arg2 harg2 arg3 harg3 arg4 harg4 arg5 harg5 arg6 harg6 x0 x1)
  isplitl [H3]
  · iexists _; isplitr; swap; · iexact H3
    ipureintro
    rw [View.read_writes_eq_canon _ _ _ (fun y => ⟨_, List.mem_singleton_self _, View.mem_set_unit_zero zero3 inb_S1x28x256_S1x28x256_0_0_0 y⟩),
      View.canon_unit_zero zero3]
    exact congrArg k0_pay4 hs
  isplitl [H4]
  · iexists _; isplitr; swap; · iexact H4
    ipureintro
    exact View.read_writes_eq_canon _ _ _ (cover0_4 c i arg1 harg1 arg2 harg2 arg3 harg3 arg4 harg4 arg5 harg5 arg6 harg6 x0 x1)
  iexists _, _; isplitr; swap; · iexact HS0
  ipureintro; rfl

/-! ## What the results hold after each point, and the proof data -/

/-- The pieces stored at point `t`, from the point's blocks. -/
abbrev piecesAt0 (c : Dev nD) (t : Fin cfg0.N) :
    List (View.Piece (Elt F) S256x7168 .i8) × List (View.Piece (Elt F) S256x7168 .bf16) × List (View.Piece (Elt F) S256x128 .f32) :=
  pieces0 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk0 V c 0 t) (iblk0 V c 1 t)

/-- The codes' buffer after point `t`. -/
def out0_2 (c : Dev nD) (t : Fin cfg0.N) : Vec F S256x7168 .i8 := View.canon (piecesAt0 V c t).1
/-- The scales' buffer after point `t`. -/
def out0_3 (c : Dev nD) (t : Fin cfg0.N) : Vec F S1x28x256 .f32 := k0_pay4 (View.canon (piecesAt0 V c t).2.2)
/-- The products' buffer after point `t`. -/
def out0_4 (c : Dev nD) (t : Fin cfg0.N) : Vec F S256x7168 .bf16 := View.canon (piecesAt0 V c t).2.1

/-- The proof data of the first pipeline: the arrays as the region finds them; after the body at point `t` each input's
    buffer at its block and the results' at `out0_2`, `out0_3`, `out0_4`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 V c t
    | ⟨3, _⟩ => out0_3 V c t
    | ⟨4, _⟩ => out0_4 V c t
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 V c t := by dsimp only [dat0]
theorem after0_3 (c : Dev nD) (t : Fin cfg0.N) : (dat0 V c).after 3 t = out0_3 V c t := by dsimp only [dat0]
theorem after0_4 (c : Dev nD) (t : Fin cfg0.N) : (dat0 V c).after 4 t = out0_4 V c t := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The invariant with the scratch of the scales apart as an owned memref. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := by
  unfold Pipeline.ΦA; rw [scopedRest0_eq]; simp only [scM0_0, owns_whole]; try rfl

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- The body at any point: the inputs' memrefs hold their blocks, so the body's triple applies; the scratch goes in and
    out of the invariant. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = Pipeline.ΦA spec0 c from rfl, show (dat0 V c).Φ t.castSucc = Pipeline.ΦA spec0 c from rfl,
    show (dat0 V c).owesAt () t.succ = (dat0 V c).owesAt () t.castSucc from rfl,
    after0_0, after0_1, after0_2, after0_3, after0_4, PhiA0_eq]
  unfold out0_2 out0_3 out0_4
  iintro ⟨⟨⟨HS, HR⟩, Hp⟩, Ho, ⟨%d0, H0⟩, ⟨%d1, H1⟩, ⟨%d2, H2⟩, ⟨%d3, H3⟩, ⟨%d4, H4⟩⟩
  iapply (kernelRun0 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk0 V c 0 t) (iblk0 V c 1 t) Set.univ _)
  isplitl [H0]; · iexact H0
  isplitl [H1]; · iexact H1
  isplitl [H2]; · iexists _; iexact H2
  isplitl [H3]; · iexists _; iexact H3
  isplitl [H4]; · iexists _; iexact H4
  isplitl [HS]; · iexact HS
  iintro ⟨H0, H1, H2, H3, H4, HS⟩
  isplitl [HS HR Hp]
  · isplitl [HS HR]
    · isplitl [HS]; · iexact HS
      iexact HR
    iexact Hp
  isplitl [Ho]; · iexact Ho
  isplitl [H0]; · iexact H0
  isplitl [H1]; · iexact H1
  isplitl [H2]; · iexact H2
  isplitl [H3]; · iexact H3
  iexact H4

/-- The body table's row at point `t`'s slots is the body. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Region

end Cert.KernelIdeal.Whole

end
-- ==== Proof.IdealMatmul.lean ====
/- The second pallas_call of `KernelIdeal` (the weights' reconstruction and the matrix product), at any contents `V` of the
   core's buffers when the region is entered: each window's block at a point, the weight tile the scratch holds, the
   result block, the proof data `dat1` and its obligation `body_obligation1`. At the first of the twelve points of a
   column tile the loop fills the scratch with the tile of weights (`wtile`); the other eleven read it back. -/
module

public import proofs.«01_k».proof.Proof.IdealQuant
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The loop's pieces -/

/-- One trip's pieces of the weight scratch do not depend on what the trip finds in the two scratch buffers. -/
theorem trip_indep (c : Dev nD) (i : grid1.Coords) (arg2 : Memref sig .tc .vmem S1024x7168 .bf16) (harg2 : arg2.IsWhole) (arg3 : Memref sig .tc .vmem S28x64x512 .i8) (harg3 : arg3.IsWhole) (arg4 : Memref sig .tc .vmem S28x32x512 .i8) (harg4 : arg4.IsWhole) (arg5 : Memref sig .tc .vmem S28x12x512 .i8) (harg5 : arg5.IsWhole) (arg6 : Memref sig .tc .vmem S28x512 .f32) (harg6 : arg6.IsWhole) (arg7 : Memref sig .tc .vmem S1024x512 .bf16) (harg7 : arg7.IsWhole) (arg8 : Memref sig .tc .vmem S7168x512 .bf16) (harg8 : arg8.IsWhole) (arg9 : Memref sig .tc .vmem S16x2x512 .bf16) (harg9 : arg9.IsWhole) (h : k1_cond1 i = 1#1) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k1_t1_loop.trips)
    (f8 f8' : BufTy.Contents (Elt F) arg8.view.ty) (f9 f9' : BufTy.Contents (Elt F) arg9.view.ty) :
    (tripL_k1_t1 (F := F) Variants.none c none i arg2 harg2 arg3 harg3 arg4 harg4 arg5 harg5 arg6 harg6 arg7 harg7 arg8 harg8 arg9 harg9 h X_arg3 X_arg4 X_arg5 X_arg6 k f8 f9).1 = (tripL_k1_t1 (F := F) Variants.none c none i arg2 harg2 arg3 harg3 arg4 harg4 arg5 harg5 arg6 harg6 arg7 harg7 arg8 harg8 arg9 harg9 h X_arg3 X_arg4 X_arg5 X_arg6 k f8' f9').1 := by
  unfold tripL_k1_t1 trip_k1_t1; rfl

/-- The pieces of the trips before `k` do not depend on what the loop finds in the two scratch buffers. -/
theorem pb_indep (c : Dev nD) (i : grid1.Coords) (arg2 : Memref sig .tc .vmem S1024x7168 .bf16) (harg2 : arg2.IsWhole) (arg3 : Memref sig .tc .vmem S28x64x512 .i8) (harg3 : arg3.IsWhole) (arg4 : Memref sig .tc .vmem S28x32x512 .i8) (harg4 : arg4.IsWhole) (arg5 : Memref sig .tc .vmem S28x12x512 .i8) (harg5 : arg5.IsWhole) (arg6 : Memref sig .tc .vmem S28x512 .f32) (harg6 : arg6.IsWhole) (arg7 : Memref sig .tc .vmem S1024x512 .bf16) (harg7 : arg7.IsWhole) (arg8 : Memref sig .tc .vmem S7168x512 .bf16) (harg8 : arg8.IsWhole) (arg9 : Memref sig .tc .vmem S16x2x512 .bf16) (harg9 : arg9.IsWhole) (h : k1_cond1 i = 1#1) (X_arg3 : BufTy.Contents (Elt F) arg3.view.ty) (X_arg4 : BufTy.Contents (Elt F) arg4.view.ty) (X_arg5 : BufTy.Contents (Elt F) arg5.view.ty) (X_arg6 : BufTy.Contents (Elt F) arg6.view.ty)
    (f8 f8' : BufTy.Contents (Elt F) arg8.view.ty) (f9 f9' : BufTy.Contents (Elt F) arg9.view.ty) :
    ∀ k : ℕ, k ≤ k1_t1_loop.trips → (pb_k1_t1 (F := F) Variants.none c none i arg2 harg2 arg3 harg3 arg4 harg4 arg5 harg5 arg6 harg6 arg7 harg7 arg8 harg8 arg9 harg9 h X_arg3 X_arg4 X_arg5 X_arg6 f8 f9 k).1 = (pb_k1_t1 (F := F) Variants.none c none i arg2 harg2 arg3 harg3 arg4 harg4 arg5 harg5 arg6 harg6 arg7 harg7 arg8 harg8 arg9 harg9 h X_arg3 X_arg4 X_arg5 X_arg6 f8' f9' k).1
  | 0, _ => rfl
  | k + 1, hk => by
    rw [pb_k1_t1_succ Variants.none c none i arg2 harg2 arg3 harg3 arg4 harg4 arg5 harg5 arg6 harg6 arg7 harg7 arg8 harg8 arg9 harg9 h X_arg3 X_arg4 X_arg5 X_arg6 f8 f9 ⟨k, hk⟩, pb_k1_t1_succ Variants.none c none i arg2 harg2 arg3 harg3 arg4 harg4 arg5 harg5 arg6 harg6 arg7 harg7 arg8 harg8 arg9 harg9 h X_arg3 X_arg4 X_arg5 X_arg6 f8' f9' ⟨k, hk⟩]
    exact congrArg₂ (· ++ ·) (trip_indep c i arg2 harg2 arg3 harg3 arg4 harg4 arg5 harg5 arg6 harg6 arg7 harg7 arg8 harg8 arg9 harg9 h X_arg3 X_arg4 X_arg5 X_arg6 ⟨k, hk⟩ _ _ _ _)
      (pb_indep c i arg2 harg2 arg3 harg3 arg4 harg4 arg5 harg5 arg6 harg6 arg7 harg7 arg8 harg8 arg9 harg9 h X_arg3 X_arg4 X_arg5 X_arg6 f8 f8' f9 f9' k (Nat.le_of_succ_le hk))

/-- The weight scratch's pieces after the whole loop, last first. -/
abbrev pieces1 (c : Dev nD) (i : grid1.Coords) (arg2 : Memref sig .tc .vmem S1024x7168 .bf16) (harg2 : arg2.IsWhole) (arg3 : Memref sig .tc .vmem S28x64x512 .i8) (harg3 : arg3.IsWhole) (arg4 : Memref sig .tc .vmem S28x32x512 .i8) (harg4 : arg4.IsWhole) (arg5 : Memref sig .tc .vmem S28x12x512 .i8) (harg5 : arg5.IsWhole) (arg6 : Memref sig .tc .vmem S28x512 .f32) (harg6 : arg6.IsWhole) (arg7 : Memref sig .tc .vmem S1024x512 .bf16) (harg7 : arg7.IsWhole) (arg8 : Memref sig .tc .vmem S7168x512 .bf16) (harg8 : arg8.IsWhole) (arg9 : Memref sig .tc .vmem S16x2x512 .bf16) (harg9 : arg9.IsWhole) (h : k1_cond1 i = 1#1)
    (x1 : Vec F S28x64x512 .i8) (x2 : Vec F S28x32x512 .i8) (x3 : Vec F S28x12x512 .i8) (x4 : Vec F S28x512 .f32) : List (View.Piece (Elt F) S7168x512 .bf16) :=
  (pb_k1_t1 (F := F) Variants.none c none i arg2 harg2 arg3 harg3 arg4 harg4 arg5 harg5 arg6 harg6 arg7 harg7 arg8 harg8 arg9 harg9 h (harg3.unread x1) (harg4.unread x2) (harg5.unread x3) (harg6.unread x4) arg8.view.junk arg9.view.junk (Scf.trips k1_t1_loop.lb k1_t1_loop.ub k1_t1_loop.st)).1

/-- They cover the scratch: 448 blocks of 16 rows tile its 7168 rows. -/
theorem cover1_8 (c : Dev nD) (i : grid1.Coords) (arg2 : Memref sig .tc .vmem S1024x7168 .bf16) (harg2 : arg2.IsWhole) (arg3 : Memref sig .tc .vmem S28x64x512 .i8) (harg3 : arg3.IsWhole) (arg4 : Memref sig .tc .vmem S28x32x512 .i8) (harg4 : arg4.IsWhole) (arg5 : Memref sig .tc .vmem S28x12x512 .i8) (harg5 : arg5.IsWhole) (arg6 : Memref sig .tc .vmem S28x512 .f32) (harg6 : arg6.IsWhole) (arg7 : Memref sig .tc .vmem S1024x512 .bf16) (harg7 : arg7.IsWhole) (arg8 : Memref sig .tc .vmem S7168x512 .bf16) (harg8 : arg8.IsWhole) (arg9 : Memref sig .tc .vmem S16x2x512 .bf16) (harg9 : arg9.IsWhole) (h : k1_cond1 i = 1#1)
    (x1 : Vec F S28x64x512 .i8) (x2 : Vec F S28x32x512 .i8) (x3 : Vec F S28x12x512 .i8) (x4 : Vec F S28x512 .f32) (y : S7168x512.Idx) :
    ∃ pc ∈ pieces1 (F := F) c i arg2 harg2 arg3 harg3 arg4 harg4 arg5 harg5 arg6 harg6 arg7 harg7 arg8 harg8 arg9 harg9 h x1 x2 x3 x4, y ∈ pc.1.set :=
  View.cover_of_tiledL _ ![16, 512] (by sl_kernel_rfl) y

/-! ## The body's triple, at the two kinds of points -/

set_option maxHeartbeats 1000000 in
/-- At the first point of a column tile: on whole memrefs with the inputs at `x0` … `x4` and everything else at any
    contents, the body runs to the continuation holding the inputs as they were, the weight scratch at what the loop's
    pieces leave, and the result at the product of `x0` with it. -/
theorem kernelRun1_A (c : Dev nD) (i : grid1.Coords) (arg2 : Memref sig .tc .vmem S1024x7168 .bf16) (harg2 : arg2.IsWhole) (arg3 : Memref sig .tc .vmem S28x64x512 .i8) (harg3 : arg3.IsWhole) (arg4 : Memref sig .tc .vmem S28x32x512 .i8) (harg4 : arg4.IsWhole) (arg5 : Memref sig .tc .vmem S28x12x512 .i8) (harg5 : arg5.IsWhole) (arg6 : Memref sig .tc .vmem S28x512 .f32) (harg6 : arg6.IsWhole) (arg7 : Memref sig .tc .vmem S1024x512 .bf16) (harg7 : arg7.IsWhole) (arg8 : Memref sig .tc .vmem S7168x512 .bf16) (harg8 : arg8.IsWhole) (arg9 : Memref sig .tc .vmem S16x2x512 .bf16) (harg9 : arg9.IsWhole) (h : k1_cond1 i = 1#1)
    (x0 : Vec F S1024x7168 .bf16) (x1 : Vec F S28x64x512 .i8) (x2 : Vec F S28x32x512 .i8) (x3 : Vec F S28x12x512 .i8) (x4 : Vec F S28x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare (k1_pay2 x0 (View.canon (pieces1 c i arg2 harg2 arg3 harg3 arg4 harg4 arg5 harg5 arg6 harg6 arg7 harg7 arg8 harg8 arg9 harg9 h x1 x2 x3 x4)))
                ∗ owns (c : Thread nD τ) arg8 fullShare (View.canon (pieces1 c i arg2 harg2 arg3 harg3 arg4 harg4 arg5 harg5 arg6 harg6 arg7 harg7 arg8 harg8 arg9 harg9 h x1 x2 x3 x4))
                ∗ (∃ d, owns (c : Thread nD τ) arg9 fullShare d)) -∗ K ⟨⟩))
          ⊢ wp frame (wpE (defs₀ (F := F)) Variants.none c none) E (cc1_matmul i arg2 harg2 arg3 harg3 arg4 harg4 arg5 harg5 arg6 harg6 arg7 harg7 arg8 harg8 arg9 harg9) K := by
  intro E K
  simp only [cc1_matmul_eq_skeleton]; unfold cc1_matmul_skel
  rw [dif_pos h]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  obtain rfl := harg2.eq_unread hf0; obtain rfl := harg3.eq_unread hf1; obtain rfl := harg4.eq_unread hf2
  obtain rfl := harg5.eq_unread hf3; obtain rfl := harg6.eq_unread hf4
  sl_exec
  sl_step
  have hp : (pb_k1_t1 (F := F) Variants.none c none i arg2 harg2 arg3 harg3 arg4 harg4 arg5 harg5 arg6 harg6 arg7 harg7 arg8 harg8 arg9 harg9 h (harg3.unread x1) (harg4.unread x2) (harg5.unread x3) (harg6.unread x4) f8 f9 (Scf.trips k1_t1_loop.lb k1_t1_loop.ub k1_t1_loop.st)).1
      = pieces1 c i arg2 harg2 arg3 harg3 arg4 harg4 arg5 harg5 arg6 harg6 arg7 harg7 arg8 harg8 arg9 harg9 h x1 x2 x3 x4 :=
    pb_indep c i arg2 harg2 arg3 harg3 arg4 harg4 arg5 harg5 arg6 harg6 arg7 harg7 arg8 harg8 arg9 harg9 h (harg3.unread x1) (harg4.unread x2) (harg5.unread x3) (harg6.unread x4) f8 _ f9 _ _ le_rfl
  have hw : arg8.view.read (Elt F) (arg8.view.writes (Elt F) f8 (pb_k1_t1 (F := F) Variants.none c none i arg2 harg2 arg3 harg3 arg4 harg4 arg5 harg5 arg6 harg6 arg7 harg7 arg8 harg8 arg9 harg9 h (harg3.unread x1) (harg4.unread x2) (harg5.unread x3) (harg6.unread x4) f8 f9 (Scf.trips k1_t1_loop.lb k1_t1_loop.ub k1_t1_loop.st)).1)
      = View.canon (pieces1 c i arg2 harg2 arg3 harg3 arg4 harg4 arg5 harg5 arg6 harg6 arg7 harg7 arg8 harg8 arg9 harg9 h x1 x2 x3 x4) := by
    rw [hp]; exact View.read_writes_eq_canon _ _ _ (cover1_8 c i arg2 harg2 arg3 harg3 arg4 harg4 arg5 harg5 arg6 harg6 arg7 harg7 arg8 harg8 arg9 harg9 h x1 x2 x3 x4)
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [View.read_writes_eq_canon _ _ _ (fun y => ⟨_, List.mem_singleton_self _, View.mem_set_unit_zero zero2 inb_S1024x512_S1024x512_0_0 y⟩),
      View.canon_unit_zero zero2, View.readAt_eq_ld, View.readAt_eq_ld, View.ld_unit_zero zero2, View.ld_unit_zero zero2, harg2.read_unread, hw]
  isplitl [H8]
  · iexists _; isplitr; swap; · iexact H8
    ipureintro; exact hw
  iexists _, _; isplitr; swap; · iexact H9
  ipureintro; rfl

set_option maxHeartbeats 1000000 in
/-- At the other points: the weight scratch is read at its contents `w` and kept; the result is the product of `x0` with
    it. -/
theorem kernelRun1_B (c : Dev nD) (i : grid1.Coords) (arg2 : Memref sig .tc .vmem S1024x7168 .bf16) (harg2 : arg2.IsWhole) (arg3 : Memref sig .tc .vmem S28x64x512 .i8) (harg3 : arg3.IsWhole) (arg4 : Memref sig .tc .vmem S28x32x512 .i8) (harg4 : arg4.IsWhole) (arg5 : Memref sig .tc .vmem S28x12x512 .i8) (harg5 : arg5.IsWhole) (arg6 : Memref sig .tc .vmem S28x512 .f32) (harg6 : arg6.IsWhole) (arg7 : Memref sig .tc .vmem S1024x512 .bf16) (harg7 : arg7.IsWhole) (arg8 : Memref sig .tc .vmem S7168x512 .bf16) (harg8 : arg8.IsWhole) (arg9 : Memref sig .tc .vmem S16x2x512 .bf16) (harg9 : arg9.IsWhole) (h : ¬ k1_cond1 i = 1#1)
    (x0 : Vec F S1024x7168 .bf16) (x1 : Vec F S28x64x512 .i8) (x2 : Vec F S28x32x512 .i8) (x3 : Vec F S28x12x512 .i8) (x4 : Vec F S28x512 .f32) (w : Vec F S7168x512 .bf16) :
      ∀ (E : Set ℕ) (K : PUnit → sProp 𝕄),
        iprop(owns (c : Thread nD τ) arg2 fullShare x0
            ∗ (∃ d, owns (c : Thread nD τ) arg7 fullShare d) ∗ owns (c : Thread nD τ) arg8 fullShare w
            ∗ (iprop(owns (c : Thread nD τ) arg2 fullShare x0
                ∗ owns (c : Thread nD τ) arg7 fullShare (k1_pay2 x0 w)
                ∗ owns (c : Thread nD τ) arg8 fullShare w) -∗ K ⟨⟩))
          ⊢ wp frame (wpE (defs₀ (F := F)) Variants.none c none) E (cc1_matmul i arg2 harg2 arg3 harg3 arg4 harg4 arg5 harg5 arg6 harg6 arg7 harg7 arg8 harg8 arg9 harg9) K := by
  intro E K
  simp only [cc1_matmul_eq_skeleton]; unfold cc1_matmul_skel
  rw [dif_neg h]
  unfold owns
  iintro ⟨⟨%f0, %hf0, H0⟩, ⟨%d5, %f5, -, H5⟩, ⟨%f8, %hf8, H8⟩, Hk⟩
  obtain rfl := harg2.eq_unread hf0; obtain rfl := harg8.eq_unread hf8
  sl_exec
  sl_step
  sl_unfold_run_names
  iapply Hk
  isplitl [H0]
  · iexists _; isplitr; · ipureintro; exact harg2.read_unread _
    iexact H0
  isplitl [H5]
  · iexists _; isplitr; swap; · iexact H5
    ipureintro
    rw [View.read_writes_eq_canon _ _ _ (fun y => ⟨_, List.mem_singleton_self _, View.mem_set_unit_zero zero2 inb_S1024x512_S1024x512_0_0 y⟩),
      View.canon_unit_zero zero2, View.readAt_eq_ld, View.readAt_eq_ld, View.ld_unit_zero zero2, View.ld_unit_zero zero2, harg2.read_unread, harg8.read_unread]
  iexists _; isplitr; swap; · iexact H8
  ipureintro; exact harg8.read_unread _

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, and its wholeness. -/
abbrev ms1_0 (t : Fin cfg1.N) : Memref sig .tc .vmem S1024x7168 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S28x64x512 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S28x32x512 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S28x12x512 .i8 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S28x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .bf16 := win1_5.stage (cfg1.slots t 5)
abbrev hs1_5 (t : Fin cfg1.N) : (ms1_5 t).IsWhole := hstage1_5 ((cfg1.slots t 5).cast nbuf1_5)
/-- The scratch buffers of the weights and of the group scales. -/
abbrev scM1_0 : Memref sig .tc .vmem S7168x512 .bf16 := Memref.whole cc1_scratch0
abbrev scM1_1 : Memref sig .tc .vmem S16x2x512 .bf16 := Memref.whole cc1_scratch1

/-! ## What the weight scratch and the result hold -/

/-- The loop runs at the points that are multiples of twelve: the first of each column tile. -/
theorem hcond1 : ∀ t : Fin cfg1.N, k1_cond1 (grid1.coords t) = 1#1 ↔ t.val % 12 = 0 :=
  (by decide +kernel : ∀ t : Fin grid1.N, k1_cond1 (grid1.coords t) = 1#1 ↔ t.val % 12 = 0)

/-- The first point of point `t`'s column tile. -/
def base1 (t : Fin cfg1.N) : Fin cfg1.N := ⟨12 * (t.val / 12), by have := t.isLt; omega⟩

theorem base1_cond (t : Fin cfg1.N) : k1_cond1 (grid1.coords (base1 t)) = 1#1 :=
  (hcond1 (base1 t)).mpr (by simp [base1])

/-- The weight tile the scratch holds after a point `t` at which the loop has run. -/
def wfill (c : Dev nD) (t : Fin cfg1.N) (h : k1_cond1 (grid1.coords t) = 1#1) : Vec F S7168x512 .bf16 :=
  View.canon (pieces1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) h (iblk1 V c 1 t) (iblk1 V c 2 t) (iblk1 V c 3 t) (iblk1 V c 4 t))

/-- The weight tile the scratch holds after point `t`: what the loop filled in at the tile's first point. -/
def wtile (c : Dev nD) (t : Fin cfg1.N) : Vec F S7168x512 .bf16 := wfill V c (base1 t) (base1_cond t)

/-- The result's buffer after point `t`. -/
def out1_5 (c : Dev nD) (t : Fin cfg1.N) : Vec F S1024x512 .bf16 := k1_pay2 (iblk1 V c 0 t) (wtile V c t)

/-- At a tile's first point the tile's weights are that point's. -/
theorem wtile_first (c : Dev nD) (t : Fin cfg1.N) (h : k1_cond1 (grid1.coords t) = 1#1) : wtile V c t = wfill V c t h := by
  have e : base1 t = t := Fin.ext (by have := (hcond1 t).mp h; simp only [base1]; omega)
  unfold wtile; congr 1

/-- At any other point they are the previous point's. -/
theorem wtile_next (c : Dev nD) (t t' : Fin cfg1.N) (ht : t.val = t'.val + 1) (h : ¬ k1_cond1 (grid1.coords t) = 1#1) : wtile V c t = wtile V c t' := by
  have e : base1 t = base1 t' := Fin.ext (by have := mt (hcond1 t).mpr h; simp only [base1]; omega)
  unfold wtile; congr 1

/-- The weight scratch between the points: at any contents before the first point, at the tile's weights after a point. -/
def wheld (c : Dev nD) : (n : ℕ) → (hn : n < cfg1.N + 1) → sProp 𝕄
  | 0, _ => iprop(∃ d, owns (c : Thread nD τ) scM1_0 fullShare d)
  | n + 1, hn => owns (c : Thread nD τ) scM1_0 fullShare (wtile V c ⟨n, Nat.lt_of_succ_lt_succ hn⟩)

theorem wheld_any (c : Dev nD) (n : ℕ) (hn : n < cfg1.N + 1) : wheld V c n hn ⊢ iprop(∃ d, owns (c : Thread nD τ) scM1_0 fullShare d) := by
  cases n with
  | zero => exact .rfl
  | succ n => unfold wheld; iintro H; iexists _; iexact H

/-- The invariant of the second pipeline: the other pipeline's buffers and the scale scratch at some contents, the weight
    scratch as `wheld` says, the generator register at some state. -/
def Phi1 (c : Dev nD) (t : Fin (cfg1.N + 1)) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f)) ∗ wheld V c t.val t.isLt ∗ (∃ d, owns (c : Thread nD τ) scM1_1 fullShare d) ∗ (∃ r, prngReg c r))

/-- The class's invariant, with the two scratch buffers as owned memrefs. -/
theorem scopedRest1_owns (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ d, owns (c : Thread nD τ) scM1_1 fullShare d)) := by
  rw [scopedRest1_eq]; simp only [scM1_0, scM1_1, owns_whole]; try rfl

/-! ## The proof data and the body obligation -/

/-- The proof data of the second pipeline: the arrays as the region finds them; after the body at point `t` each input's
    buffer at its block and the result's at `out1_5`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 V c t
  Φ t := Phi1 V c t
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 V c t := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

/-- The body at any point: at a tile's first point the loop's run, at the others the run that keeps the weight scratch. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = Phi1 V c t.succ from rfl, show (dat1 V c).Φ t.castSucc = Phi1 V c t.castSucc from rfl,
    show (dat1 V c).owesAt () t.succ = (dat1 V c).owesAt () t.castSucc from rfl,
    after1_0, after1_1, after1_2, after1_3, after1_4, after1_5]
  unfold Phi1 out1_5
  rw [show wheld V c t.succ.val t.succ.isLt = owns (c : Thread nD τ) scM1_0 fullShare (wtile V c t) from rfl]
  by_cases h : k1_cond1 (grid1.coords t) = 1#1
  · rw [wtile_first V c t h]
    unfold wfill
    iintro ⟨⟨HR, HW, HG, Hp⟩, Ho, ⟨%d0, H0⟩, ⟨%d1, H1⟩, ⟨%d2, H2⟩, ⟨%d3, H3⟩, ⟨%d4, H4⟩, ⟨%d5, H5⟩⟩
    ihave HW' := (wheld_any V c _ _) $$ HW
    iapply (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) h (iblk1 V c 0 t) (iblk1 V c 1 t) (iblk1 V c 2 t) (iblk1 V c 3 t) (iblk1 V c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [HW']; · iexact HW'
    isplitl [HG]; · iexact HG
    iintro ⟨H0, H1, H2, H3, H4, H5, HW, HG⟩
    isplitl [HR HW HG Hp]
    · isplitl [HR]; · iexact HR
      isplitl [HW]; · iexact HW
      isplitl [HG]; · iexact HG
      iexact Hp
    isplitl [Ho]; · iexact Ho
    isplitl [H0]; · iexact H0
    isplitl [H1]; · iexact H1
    isplitl [H2]; · iexact H2
    isplitl [H3]; · iexact H3
    isplitl [H4]; · iexact H4
    iexact H5
  · obtain ⟨n, hn, ht⟩ : ∃ (n : ℕ) (hn : n < cfg1.N), t.val = n + 1 := by
      have h0 : t.val ≠ 0 := fun e => h ((hcond1 t).mpr (by rw [e]))
      exact ⟨t.val - 1, by have := t.isLt; omega, by omega⟩
    have hw : wheld V c t.castSucc.val t.castSucc.isLt = owns (c : Thread nD τ) scM1_0 fullShare (wtile V c t) := by
      rw [wtile_next V c t ⟨n, hn⟩ ht h]
      have key : ∀ (a : ℕ) (ha : a < cfg1.N + 1) (e : a = n + 1), wheld V c a ha = owns (c : Thread nD τ) scM1_0 fullShare (wtile V c ⟨n, hn⟩) := by
        intro a ha e; subst e; rfl
      exact key _ _ ht
    rw [hw]
    iintro ⟨⟨HR, HW, HG, Hp⟩, Ho, ⟨%d0, H0⟩, ⟨%d1, H1⟩, ⟨%d2, H2⟩, ⟨%d3, H3⟩, ⟨%d4, H4⟩, ⟨%d5, H5⟩⟩
    iapply (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) h (iblk1 V c 0 t) (iblk1 V c 1 t) (iblk1 V c 2 t) (iblk1 V c 3 t) (iblk1 V c 4 t) (wtile V c t) Set.univ _)
    isplitl [H0]; · iexact H0
    isplitl [H5]; · iexists _; iexact H5
    isplitl [HW]; · iexact HW
    iintro ⟨H0, H5, HW⟩
    isplitl [HR HW HG Hp]
    · isplitl [HR]; · iexact HR
      isplitl [HW]; · iexact HW
      isplitl [HG]; · iexact HG
      iexact Hp
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Region

end Cert.KernelIdeal.Whole

end
-- ==== Proof.IdealRun.lean ====
/- The run of `KernelIdeal` from the launch to the return: what the core's buffers hold at each boundary of @main (`B0` at
   the launch, `B1` after the first two reshapes, `B2` after the quantiser's call, `B3` after the transposes, `B4` after
   the matrix product's call, `B5` after the results' reshapes), the two calls as segments, the launch theorem `run` (every
   execution terminates with the buffers at `B5` and the counters at zero) and the frame. -/
module

public import proofs.«01_k».proof.Proof.IdealMatmul
public import proofs.«01_k».proof.Proof.Gen.KernelIdeal.Regions
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.Value
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers at each boundary -/

/-- The argument arrays. -/
abbrev argRefs : List (Ref sig .tc) := [main_arg0, main_arg1, main_arg2, main_arg3, main_arg4, main_arg5]

/-- Core `c`'s buffers at the launch, -/
abbrev B0 : Dev nD → Valuation τ sig (Elt F) := fun c b => m ((c : Dev nD), b)
/-- after the first host operations, -/
def B1 (c : Dev nD) : Valuation τ sig (Elt F) := StableHlo.after hostOps0 (B0 m c)
/-- the same read at the TensorCore's references, -/
abbrev E1 : (c : Dev nD) → (b : Ref sig .tc) → Buf (Elt F) ((c : Thread nD τ).loc b) := fun c b => B1 m c b
/-- after the quantiser's call, -/
def B2 (c : Dev nD) : Valuation τ sig (Elt F) := Pipeline.withArrays spec0 c (B1 m c) fun w => (dat0 (E1 m) c).arrAt w cfg0.N
abbrev E2 : (c : Dev nD) → (b : Ref sig .tc) → Buf (Elt F) ((c : Thread nD τ).loc b) := fun c b => B2 m c b
/-- after the transposes, -/
def B3 (c : Dev nD) : Valuation τ sig (Elt F) := StableHlo.after hostOps1 (B2 m c)
abbrev E3 : (c : Dev nD) → (b : Ref sig .tc) → Buf (Elt F) ((c : Thread nD τ).loc b) := fun c b => B3 m c b
/-- after the matrix product's call, -/
def B4 (c : Dev nD) : Valuation τ sig (Elt F) := Pipeline.withArrays spec1 c (B3 m c) fun w => (dat1 (E3 m) c).arrAt w cfg1.N
abbrev E4 : (c : Dev nD) → (b : Ref sig .tc) → Buf (Elt F) ((c : Thread nD τ).loc b) := fun c b => B4 m c b
/-- and at the return. -/
def B5 (c : Dev nD) : Valuation τ sig (Elt F) := StableHlo.after hostOps2 (B4 m c)

/-- A buffer the first host operations do not write is as launched. -/
theorem B1_of (c : Dev nD) (r : Ref sig .tc) (h : r ∉ hostOps0_W) : B1 m c (Proc.devRef .tc r) = B0 m c (Proc.devRef .tc r) :=
  StableHlo.after_of_writes_sub hostOps0 _ hostOps0_writes h
/-- An array of call 0 holds at its end what the pipeline leaves. -/
theorem B2_arr (c : Dev nD) (w : Fin cfg0.W) : B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- A buffer that is none of call 0's result arrays is as before it. -/
theorem B2_of (c : Dev nD) (r : Ref sig .tc) (h : ∀ w : Fin cfg0.W, Pipeline.arrRef spec0 w = r → (cfg0.win w).isOut = false) :
    B2 m c (Proc.devRef .tc r) = B1 m c (Proc.devRef .tc r) := by
  by_cases hw : ∃ w : Fin cfg0.W, Pipeline.arrRef spec0 w = r
  · obtain ⟨w, rfl⟩ := hw
    exact (B2_arr m c w).trans (((dat0 (E1 m) c).arrAt_in w (h w rfl) _).trans (A_eq0 (E1 m) c w))
  · exact B2_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- A buffer the transposes do not write is as before them. -/
theorem B3_of (c : Dev nD) (r : Ref sig .tc) (h : r ∉ hostOps1_W) : B3 m c (Proc.devRef .tc r) = B2 m c (Proc.devRef .tc r) :=
  StableHlo.after_of_writes_sub hostOps1 _ hostOps1_writes h
/-- An array of call 1 holds at its end what the pipeline leaves. -/
theorem B4_arr (c : Dev nD) (w : Fin cfg1.W) : B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
/-- A buffer that is none of call 1's result arrays is as before it. -/
theorem B4_of (c : Dev nD) (r : Ref sig .tc) (h : ∀ w : Fin cfg1.W, Pipeline.arrRef spec1 w = r → (cfg1.win w).isOut = false) :
    B4 m c (Proc.devRef .tc r) = B3 m c (Proc.devRef .tc r) := by
  by_cases hw : ∃ w : Fin cfg1.W, Pipeline.arrRef spec1 w = r
  · obtain ⟨w, rfl⟩ := hw
    exact (B4_arr m c w).trans (((dat1 (E3 m) c).arrAt_in w (h w rfl) _).trans (A_eq1 (E3 m) c w))
  · exact B4_of_ne m c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem hF1 (c : Dev nD) (w : Fin cfg1.W) : (dat1 (E3 m) c).arrAt w cfg1.N = E4 m c (Pipeline.arrRef spec1 w) :=
  (B4_arr m c w).symm
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)
/-- A buffer the last host operations do not write is as before them. -/
theorem B5_of (c : Dev nD) (r : Ref sig .tc) (h : r ∉ hostOps2_W) : B5 m c (Proc.devRef .tc r) = B4 m c (Proc.devRef .tc r) :=
  StableHlo.after_of_writes_sub hostOps2 _ hostOps2_writes h

/-- Each argument is as launched at every boundary. -/
theorem B5_args (c : Dev nD) : ∀ a ∈ argRefs, B5 m c (Proc.devRef .tc a) = m ((c : Thread nD τ).loc a) := fun a ha =>
  have n0 : a ∉ hostOps0_W := (by decide : ∀ a ∈ argRefs, a ∉ hostOps0_W) a ha
  have n1 : a ∉ hostOps1_W := (by decide : ∀ a ∈ argRefs, a ∉ hostOps1_W) a ha
  have n2 : a ∉ hostOps2_W := (by decide : ∀ a ∈ argRefs, a ∉ hostOps2_W) a ha
  (B5_of m c a n2).trans ((B4_of m c a (argsIn1 a ha)).trans ((B3_of m c a n1).trans ((B2_of m c a (argsIn0 a ha)).trans (B1_of m c a n0))))

/-! ## The proof data family and the thread state -/

/-- No pipeline has a prefetched table. -/
abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (B5 m c) ∗ ∃ r, prngReg c r)

/-! ## The calls as segments -/

set_option backward.isDefEq.respectTransparency.types false in
/-- Call 0: entered from every unscoped buffer at `B1`, left at `B2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) (A_eq0 (E1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1: entered from every unscoped buffer at `B3`, left at `B4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) (A_eq1 (E3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Phi1 (E3 m) c 0 from rfl]; unfold Phi1
    rw [show wheld (E3 m) c (0 : Fin (cfg1.N + 1)).val (0 : Fin (cfg1.N + 1)).isLt = iprop(∃ d, owns (c : Thread nD τ) scM1_0 fullShare d) from rfl]
    iintro ⟨Hp, -, Hr⟩
    ihave H := (Entails.of_eq (scopedRest1_owns (F := F) c)) $$ Hr
    icases H with ⟨R0, R1, R2, R3, R4, R5, R6, R7, R8, R9, HW, HG⟩
    isplitl [R0 R1 R2 R3 R4 R5 R6 R7 R8 R9]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      iexact R9
    isplitl [HW]; · iexact HW
    isplitl [HG]; · iexact HG
    iexact Hp
  hout c := by
    rw [Pipeline.ownSems0_none, show (pdats m 1 c).Φ (Fin.last _) = Phi1 (E3 m) c (Fin.last _) from rfl]; unfold Phi1
    iintro ⟨⟨R0, R1, R2, R3, R4, R5, R6, R7, R8, R9⟩, HW, HG, Hp⟩
    ihave HW' := (wheld_any (E3 m) c _ _) $$ HW
    isplitl [Hp]; · iexact Hp
    isplitr; · iempintro
    iapply (Entails.of_eq (scopedRest1_owns (F := F) c).symm)
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [HW']; · iexact HW'
    iexact HG
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)) ]
/-- @main is the run of the segments. -/
theorem main_run (c : Dev nD) : main (F := F) c = Pipeline.Seg.run (segs m) := (main_chain c).trans (by chain_rfl)

/-- The TensorCore has no unscoped semaphore. -/
theorem no_unscoped : ∀ sm : SemLoc sig, sm.isScoped .tc = true := by decide

set_option backward.isDefEq.respectTransparency.types false in
/-- The launch: from any memory with zero counters every weakly fair execution of @main terminates, and every final state
    holds each unscoped buffer at `B5`, with every semaphore counter at zero. -/
theorem run (ρ : Dev nD → PrngReg) : θ_run defs (onTc (τ := τ) (main (F := F))) ⟨m, fun _ => 0, ρ⟩ (fun r =>
      (∀ c : Dev nD, ∀ b ∈ Pipeline.ucRefs τ sig, r.2.mem (((c : Thread nD τ)).1, b) = B5 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (B5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h hz => ⟨fun c => h c, funext fun g => hz g (.inr (no_unscoped g.2))⟩)

/-- The frame: every execution terminates, the argument arrays end as launched and every counter at zero. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    have g (b : Ref sig .tc) (hb : ¬ (Proc.devRef .tc b : DevRef τ sig).isScoped) (ha : b ∈ argRefs) :
        r.2.mem ((c.tc : Thread nD τ).loc b) = m ((c.tc : Thread nD τ).loc b) := (h.1 c _ (mem_uc b hb)).trans (B5_args m c b ha)
    ⟨g main_arg0 (by decide) (by decide), g main_arg1 (by decide) (by decide), g main_arg2 (by decide) (by decide), g main_arg3 (by decide) (by decide), g main_arg4 (by decide) (by decide), g main_arg5 (by decide) (by decide)⟩, h.2⟩) (run m ρ)

end Cert.KernelIdeal.Whole

end
-- ==== Proof.Frames.lean ====
/- The frames of the three programs and the `preserves` claim, as the certificate states them. -/
module

public import proofs.«01_k».proof.Defs
public import proofs.«01_k».proof.Proof.WordRun
public import proofs.«01_k».proof.Proof.IdealRun
public import proofs.«01_k».proof.Proof.Gen.ReferenceIdeal.Run
public import Idealize.ShloMosaic.Lib.Bf16PairInverse
public import Idealize.ShloMosaic.Lib.Quiescent

@[expose] public section

noncomputable section

namespace Cert.Proof.Frames

open Idealize.ShloMosaic Idealize.SL.Sem

/-- The kernel at words: it terminates, its arguments end as launched, every counter at zero. -/
theorem frame_p : Cert.quiescent_Kernel := fun m ρ _ => Cert.Kernel.Whole.frame m ρ

/-- The idealized kernel likewise. -/
theorem frame_pi : Cert.quiescent_KernelIdeal := fun m ρ _ => Cert.KernelIdeal.Whole.frame m ρ

/-- The reference terminates, its arguments end as launched; it declares no semaphore. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The rewrites the idealization made: the scratch of packed scales declared as bf16 pairs, the pack of a value with
    itself, the pair's rows stored and loaded, and the words read as bf16 rows. -/
theorem preserves : Cert.preserves_Kernel_KernelIdeal :=
  open Cert.KernelIdeal IdealRules.bf16_pair in
  ⟨bufferStatement S16x2x512 S16x1x512, packStatement S16x512, statement S16x2x512 S16x1x512,
    statement S1x2x512 S1x1x512, statement S16x512 S8x512⟩

end Cert.Proof.Frames

end
-- ==== Proof.Decode.lean ====
/- How the kernel takes the three-bit codes apart, byte by byte. A 32-bit word holds four rows of a column; the kernel
   shifts words of low bits and of inverted high bits, masks the two fields of every byte, joins them and reads the bytes
   as signed integers. Each byte is then thirty-two times the code the reference computes from the same two bytes. -/
module

public import proofs.«01_k».proof.Proof.Gen.KernelIdeal.Skeleton
public import Idealize.ShloMosaic.Lib.Pipeline.ValueKit
public import Idealize.ShloMosaic.Lib.BitcastFour
public import Idealize.ShloMosaic.Lib.Bf16PairRect

@[expose] public section

set_option maxRecDepth 16384

noncomputable section

namespace Cert.KernelIdeal.Decode

open Cert.KernelIdeal.Gen
open Idealize.ShloMosaic

/-- The three-bit code of one weight, from the byte that holds its two low bits (at position `2j`) and the byte that holds
    its high bit (at position `t`): low bits plus four times the high bit, minus four. -/
def code (v h : BitVec 8) (j t : ℕ) : ℤ := (((v >>> (2 * j)) &&& 3#8).toNat : ℤ) + 4 * (((h >>> t) &&& 1#8).toNat : ℤ) - 4

/-- The byte the kernel makes of a byte of low bits `a` (already shifted) and one of inverted high bits `b` (already
    shifted): bits 5 and 6 of `a`, bit 7 of `b`. -/
def joinB (a b : BitVec 8) : BitVec 8 := (a &&& 0x60#8) ||| (b &&& 0x80#8)

/-- The low field of a byte shifted left by `5 - 2j`, or right by one for the last `j`, as a number of thirty-seconds. -/
theorem low_left : ∀ v : BitVec 8, ∀ j : Fin 3, (v <<< (5 - 2 * j.val)) &&& 0x60#8 = BitVec.ofNat 8 (32 * ((v >>> (2 * j.val)) &&& 3#8).toNat) := by
  decide +kernel

theorem low_right : ∀ v : BitVec 8, (v >>> 1) &&& 0x60#8 = BitVec.ofNat 8 (32 * ((v >>> 6) &&& 3#8).toNat) := by
  decide +kernel

/-- The high field: the inverted bit at the top of the byte. -/
theorem high_left : ∀ h : BitVec 8, ∀ t : Fin 8, ((~~~h) <<< (7 - t.val)) &&& 0x80#8 = BitVec.ofNat 8 (128 * (1 - ((h >>> t.val) &&& 1#8).toNat)) := by
  decide +kernel

theorem join_val : ∀ a : Fin 4, ∀ b : Fin 2, (BitVec.ofNat 8 (32 * a.val) ||| BitVec.ofNat 8 (128 * (1 - b.val))).toInt
    = 32 * ((a.val : ℤ) + 4 * (b.val : ℤ) - 4) := by decide

theorem and3_lt : ∀ v : BitVec 8, ((v &&& 3#8).toNat) < 4 := by decide +kernel
theorem and1_lt : ∀ v : BitVec 8, ((v &&& 1#8).toNat) < 2 := by decide +kernel

/-- The joined byte is thirty-two times the code, the low bits shifted to the left. -/
theorem joinB_left (v h : BitVec 8) (j : Fin 3) (t : Fin 8) :
    (joinB (v <<< (5 - 2 * j.val)) ((~~~h) <<< (7 - t.val))).toInt = 32 * code v h j.val t.val := by
  unfold joinB code
  rw [low_left, high_left]
  exact join_val ⟨_, and3_lt _⟩ ⟨_, and1_lt _⟩

/-- The joined byte is thirty-two times the code, the low bits shifted to the right by one. -/
theorem joinB_right (v h : BitVec 8) (t : Fin 8) :
    (joinB (v >>> 1) ((~~~h) <<< (7 - t.val))).toInt = 32 * code v h 3 t.val := by
  unfold joinB code
  rw [low_right, high_left]
  exact join_val ⟨_, and3_lt _⟩ ⟨_, and1_lt _⟩

/-- A word's byte `r` (as the kernel's bitcast to bytes reads it): bit `q` of row `p` of the bytes is bit `8 (p % 4) + q` of
    row `p / 4` of the words. -/
theorem bytes_getLsbD (w : IVec S8x512 32) (p : Fin 32) (l : Fin 512) (q : ℕ) (hq : q < 8) :
    (bitcast S32x512 8 w bitcasts_S8x512_w32_S32x512_w8 (ValueIdx.ix2 p l)).getLsbD q
      = (w (ValueIdx.ix2 ⟨p.val / 4, by omega⟩ l)).getLsbD (8 * (p.val % 4) + q) := by
  rw [bitcast_getLsbD w bitcasts_S8x512_w32_S32x512_w8 _ q hq (by decide)]
  have hr : (S32x512.row (ValueIdx.ix2 p l)) = p.val := rfl
  have e1 : (S32x512.row (ValueIdx.ix2 p l) * 8 + q) / 32 = p.val / 4 := by rw [hr]; omega
  have e2 : (S32x512.row (ValueIdx.ix2 p l) * 8 + q) % 32 = 8 * (p.val % 4) + q := by rw [hr]; omega
  rw [e2]
  congr 2
  funext c
  match c with
  | ⟨0, _⟩ => exact Fin.ext ((Shape.Bitcasts.srcIdx_row _ _ _ _ ⟨0, Nat.zero_lt_two⟩ rfl).trans e1)
  | ⟨1, _⟩ => exact Fin.ext (Shape.Bitcasts.srcIdx_other _ _ _ _ ⟨1, Nat.one_lt_two⟩ (by show ¬ 1 + 2 = 2; omega))

/-- Bit `8 r + q` of the word of four bytes is bit `q` of byte `r`. -/
theorem words_getLsbD (x : IVec S32x512 8) (p : Fin 32) (l : Fin 512) (k : ℕ) (hk : k < 8) :
    (bitcast S8x512 32 x bitcasts_S32x512_w8_S8x512_w32 (ValueIdx.ix2 ⟨p.val / 4, by omega⟩ l)).getLsbD (8 * (p.val % 4) + k)
      = (x (ValueIdx.ix2 p l)).getLsbD k := by
  refine (bitcast_8_32_getLsbD_ix2 x bitcasts_S32x512_w8_S8x512_w32 ⟨p.val / 4, by omega⟩ l (8 * (p.val % 4) + k) (by omega) p ?_).trans ?_
  · show p.val = 4 * (p.val / 4) + _; omega
  · congr 1; omega

theorem mask_lo : ∀ r : Fin 4, ∀ q : Fin 8, (1616928864#32).getLsbD (8 * r.val + q.val) = (0x60#8).getLsbD q.val := by decide
theorem mask_hi : ∀ r : Fin 4, ∀ q : Fin 8, (2155905152#32).getLsbD (8 * r.val + q.val) = (0x80#8).getLsbD q.val := by decide

/-- Words shifted to the left by `s` and `t` places, masked and joined: read as bytes, each is the joined byte of its two
    source bytes. -/
theorem left_byte (x y : IVec S32x512 8) (p : Fin 32) (l : Fin 512) (s t : ℕ) (hs : s ≤ 5) (ht : t ≤ 7) :
    bitcast S32x512 8 (ori (andi (shli (bitcast S8x512 32 x bitcasts_S32x512_w8_S8x512_w32) (broadcast S8x512 (BitVec.ofNat 32 s))) (broadcast S8x512 1616928864#32))
      (andi (shli (xori (bitcast S8x512 32 y bitcasts_S32x512_w8_S8x512_w32) (constantI S8x512 32 4294967295#32)) (broadcast S8x512 (BitVec.ofNat 32 t))) (broadcast S8x512 2155905152#32)))
        bitcasts_S8x512_w32_S32x512_w8 (ValueIdx.ix2 p l)
      = joinB (x (ValueIdx.ix2 p l) <<< s) ((~~~ y (ValueIdx.ix2 p l)) <<< t) := by
  apply BitVec.eq_of_getLsbD_eq
  intro q hq
  rw [bytes_getLsbD _ p l q hq]
  have h1 := mask_lo ⟨p.val % 4, by omega⟩ ⟨q, hq⟩
  have h2 := mask_hi ⟨p.val % 4, by omega⟩ ⟨q, hq⟩
  have hall : ∀ i : Fin 32, (4294967295#32).getLsbD i.val = true := by decide
  have e1 : (BitVec.ofNat 32 s).toNat = s := by simp; omega
  have e2 : (BitVec.ofNat 32 t).toNat = t := by simp; omega
  have c1 : s < 32 := by omega
  have c2 : t < 32 := by omega
  simp only [ori, andi, shli, xori, broadcast, constantI, IntOp.ori, IntOp.andi, IntOp.shli, IntOp.xori, if_pos c1, if_pos c2, joinB,
    BitVec.getLsbD_or, BitVec.getLsbD_and, BitVec.shiftLeft_eq', e1, e2, BitVec.getLsbD_shiftLeft, BitVec.getLsbD_xor] at h1 h2 ⊢
  rw [h1, h2]
  have b5 : (0x60#8).getLsbD q = true → 5 ≤ q := by
    have : ∀ q : Fin 8, (0x60#8).getLsbD q.val = true → 5 ≤ q.val := by decide
    exact this ⟨q, hq⟩
  have b7 : (0x80#8).getLsbD q = true → 7 ≤ q := by
    have : ∀ q : Fin 8, (0x80#8).getLsbD q.val = true → 7 ≤ q.val := by decide
    exact this ⟨q, hq⟩
  congr 1
  · cases hb : (0x60#8).getLsbD q
    · simp
    · have h5 := b5 hb
      have n1 : ¬ (8 * (p.val % 4) + q < s) := by omega
      have n2 : ¬ (q < s) := by omega
      have n3 : 8 * (p.val % 4) + q < 32 := by omega
      have w := words_getLsbD x p l (q - s) (by omega)
      rw [show 8 * (p.val % 4) + (q - s) = 8 * (p.val % 4) + q - s by omega] at w
      simp only [n1, n2, n3, hq, w, decide_true, decide_false, Bool.not_false, Bool.true_and, Bool.and_true]
  · cases hb : (0x80#8).getLsbD q
    · simp
    · have h7 := b7 hb
      have n1 : ¬ (8 * (p.val % 4) + q < t) := by omega
      have n2 : ¬ (q < t) := by omega
      have n3 : 8 * (p.val % 4) + q < 32 := by omega
      have w := words_getLsbD y p l (q - t) (by omega)
      rw [show 8 * (p.val % 4) + (q - t) = 8 * (p.val % 4) + q - t by omega] at w
      have hA := hall ⟨8 * (p.val % 4) + q - t, by omega⟩
      have n4 : q - t < 8 := by omega
      simp only [] at hA
      rw [hA, w]
      simp only [n1, n2, n3, hq, n4, BitVec.getLsbD_not, decide_true, decide_false, Bool.not_false, Bool.true_and, Bool.and_true, Bool.xor_true]

/-- The same with the low bits shifted to the right by one place. -/
theorem right_byte (x y : IVec S32x512 8) (p : Fin 32) (l : Fin 512) (t : ℕ) (ht : t ≤ 7) :
    bitcast S32x512 8 (ori (andi (shrui (bitcast S8x512 32 x bitcasts_S32x512_w8_S8x512_w32) (broadcast S8x512 1#32)) (broadcast S8x512 1616928864#32))
      (andi (shli (xori (bitcast S8x512 32 y bitcasts_S32x512_w8_S8x512_w32) (constantI S8x512 32 4294967295#32)) (broadcast S8x512 (BitVec.ofNat 32 t))) (broadcast S8x512 2155905152#32)))
        bitcasts_S8x512_w32_S32x512_w8 (ValueIdx.ix2 p l)
      = joinB (x (ValueIdx.ix2 p l) >>> 1) ((~~~ y (ValueIdx.ix2 p l)) <<< t) := by
  apply BitVec.eq_of_getLsbD_eq
  intro q hq
  rw [bytes_getLsbD _ p l q hq]
  have h1 := mask_lo ⟨p.val % 4, by omega⟩ ⟨q, hq⟩
  have h2 := mask_hi ⟨p.val % 4, by omega⟩ ⟨q, hq⟩
  have hall : ∀ i : Fin 32, (4294967295#32).getLsbD i.val = true := by decide
  have e2 : (BitVec.ofNat 32 t).toNat = t := by simp; omega
  have c1 : (1 : ℕ) < 32 := by decide
  have c2 : t < 32 := by omega
  have e1 : (1#32).toNat = 1 := rfl
  simp only [ori, andi, shli, shrui, xori, broadcast, constantI, IntOp.ori, IntOp.andi, IntOp.shli, IntOp.shrui, IntOp.xori, if_pos c1, if_pos c2, joinB,
    BitVec.getLsbD_or, BitVec.getLsbD_and, BitVec.shiftLeft_eq', BitVec.ushiftRight_eq', e1, e2, BitVec.getLsbD_shiftLeft, BitVec.getLsbD_ushiftRight, BitVec.getLsbD_xor] at h1 h2 ⊢
  rw [h1, h2]
  have b5 : (0x60#8).getLsbD q = true → q ≤ 6 := by
    have : ∀ q : Fin 8, (0x60#8).getLsbD q.val = true → q.val ≤ 6 := by decide
    exact this ⟨q, hq⟩
  have b7 : (0x80#8).getLsbD q = true → 7 ≤ q := by
    have : ∀ q : Fin 8, (0x80#8).getLsbD q.val = true → 7 ≤ q.val := by decide
    exact this ⟨q, hq⟩
  congr 1
  · cases hb : (0x60#8).getLsbD q
    · simp
    · have h5 := b5 hb
      have w := words_getLsbD x p l (1 + q) (by omega)
      rw [show 8 * (p.val % 4) + (1 + q) = 1 + (8 * (p.val % 4) + q) by omega] at w
      simp [w]
  · cases hb : (0x80#8).getLsbD q
    · simp
    · have h7 := b7 hb
      have n1 : ¬ (8 * (p.val % 4) + q < t) := by omega
      have n2 : ¬ (q < t) := by omega
      have n3 : 8 * (p.val % 4) + q < 32 := by omega
      have w := words_getLsbD y p l (q - t) (by omega)
      rw [show 8 * (p.val % 4) + (q - t) = 8 * (p.val % 4) + q - t by omega] at w
      have hA := hall ⟨8 * (p.val % 4) + q - t, by omega⟩
      have n4 : q - t < 8 := by omega
      simp only [] at hA
      rw [hA, w]
      simp only [n1, n2, n3, hq, n4, BitVec.getLsbD_not, decide_true, decide_false, Bool.not_false, Bool.true_and, Bool.and_true, Bool.xor_true]

end Cert.KernelIdeal.Decode
-- ==== Proof.WeightTile.lean ====
/- The tile of weights the second pallas_call's loop leaves in its scratch, as a function of the index: row `256 n + r` is
   the code of weight `r` of block `n` (taken from the bytes of low and of high bits) times its group's scale times the
   block's scale. -/
module

public import proofs.«01_k».proof.Proof.Decode
public import proofs.«01_k».proof.Proof.IdealMatmul
public import Idealize.ShloMosaic.Lib.Pipeline.ReadBack
public import Idealize.ShloMosaic.Lib.WholeRead

@[expose] public section

set_option maxRecDepth 16384

noncomputable section

namespace Cert.KernelIdeal.Whole

open Cert.KernelIdeal.Gen Cert.KernelIdeal.Decode
open Idealize.ShloMosaic Idealize.ShloMosaic.TcCoe Idealize.ShloMosaic.Tactic
open Idealize.SL Idealize.SL.RA Idealize.SL.BI
open Idealize.ShloMosaic.Pipeline (Dat Cfg Window BodyObligation cellOf)
open Idealize.ShloMosaic.ValueKit

/-- The integer scale of group `i` of a block, from the block's twelve bytes: four low bits from the first eight bytes,
    two high bits from the last four, minus thirty-two. -/
def swd (sc : Fin 12 → BitVec 8) (i : Fin 16) : BitVec 32 :=
  ((if h : i.val < 8 then ((sc ⟨i.val, by omega⟩).setWidth 32) &&& 15#32 else (((sc ⟨i.val - 8, by omega⟩).setWidth 32).sshiftRight 4) &&& 15#32)
    ||| (((((sc ⟨8 + i.val % 4, by omega⟩).setWidth 32).sshiftRight (2 * (i.val / 4))) &&& 3#32) <<< 4)) - 32#32

/-- The printed constant by which the kernel multiplies a group's scale is one thirty-second. -/
theorem ofBits_thirtysecond : Ideal.ofBits .f32 0x3D000000#32 = (((1 / 32 : ℝ)) : EReal) := by
  simp [Ideal.ofBits, Ideal.ieee]
  rw [← EReal.coe_mul]; congr 1; norm_num

theorem shr_lit (u : ArithUnit) (x : BitVec 32) : IntOp.shrsi u x 0#32 = x.sshiftRight 0 ∧ IntOp.shrsi u x 2#32 = x.sshiftRight 2
    ∧ IntOp.shrsi u x 4#32 = x.sshiftRight 4 ∧ IntOp.shrsi u x 6#32 = x.sshiftRight 6 ∧ IntOp.shli u x 4#32 = x <<< 4 :=
  ⟨if_pos (by decide), if_pos (by decide), if_pos (by decide), if_pos (by decide), if_pos (by decide)⟩

/-- The kernel's integer scale at a group and a column, as a number. -/
theorem pay4_apply (v : Vec Ideal S1x12x512 .i8) (i : Fin 16) (l : Fin 512) :
    k1_pay4 (F := Ideal) v (ix2 i l) = (((swd (fun a => v (ix3 0 a l)) i).toInt : ℝ) : EReal) := by
  pointwise [k1_pay4]
  show (((_ : BitVec 32).toInt : ℝ) : EReal) = _
  congr 3
  obtain ⟨i, hi⟩ := i
  simp only [(shr_lit _ _).1, (shr_lit _ _).2.1, (shr_lit _ _).2.2.1, (shr_lit _ _).2.2.2.1, (shr_lit _ _).2.2.2.2]
  interval_cases i <;> simp [swd, IntOp.andi, IntOp.ori, IntOp.subi]

/-- A group's row of the packed pair buffer, spread over sixteen rows: row `p` is the half of `p`'s parity. -/
theorem pay9_apply (v : Vec Ideal S1x2x512 .bf16) (p : Fin 16) (l : Fin 512) :
    k1_pay9 (F := Ideal) v (ix2 p l) = v (ix3 0 ⟨p.val % 2, by omega⟩ l) := by
  pointwise [k1_pay9]
  simp only [dite_eq_ite, ite_self]
  by_cases h : p.val % 2 = 0
  · rw [if_pos h]; congr 1; exact congrArg (fun a : Fin 2 => ix3 (n0 := 1) 0 a l) (Fin.ext h.symm)
  · rw [if_neg h]; congr 1; exact congrArg (fun a : Fin 2 => ix3 (n0 := 1) 0 a l) (Fin.ext (by show 1 = p.val % 2; omega))

/-- The packed pair buffer holds a group's scale divided by thirty-two in both halves. -/
theorem pay5_apply (v : FVec Ideal S1x512 .f32) (w : FVec Ideal S16x512 .f32) (p : Fin 16) (u : Fin 2) (l : Fin 512) :
    k1_pay5 (F := Ideal) v w (ix3 p u l) = v (ix2 0 l) * w (ix2 p l) * (((1 / 32 : ℝ)) : EReal) := by
  pointwise [k1_pay5]
  rw [ite_self, ofBits_thirtysecond]

theorem ix2_eq (p : Fin 32) (l : Fin 512) : (ix2 p l : S32x512.Idx) = ValueIdx.ix2 p l := by
  funext a; match a with | ⟨0, _⟩ => rfl | ⟨1, _⟩ => rfl

theorem cast1 (q : Vec Ideal S1x32x512 .i8) (p : Fin 32) (l : Fin 512) :
    (shapeCast S32x512 q shapeCasts_S1x32x512_S32x512 : IVec S32x512 8) (ValueIdx.ix2 p l) = q (ix3 0 p l) := by
  rw [← ix2_eq]; pointwise []

/-- The words joined from low bits shifted to the left by `s` and high bits shifted by `t`. -/
abbrev wordsL (q hm : IVec S8x512 32) (s t : BitVec 32) : IVec S8x512 32 :=
  ori (andi (shli q (broadcast S8x512 s)) (broadcast S8x512 1616928864#32)) (andi (shli hm (broadcast S8x512 t)) (broadcast S8x512 2155905152#32))

/-- The words joined from low bits shifted to the right by one and high bits shifted by `t`. -/
abbrev wordsR (q hm : IVec S8x512 32) (t : BitVec 32) : IVec S8x512 32 :=
  ori (andi (shrui q (broadcast S8x512 1#32)) (broadcast S8x512 1616928864#32)) (andi (shli hm (broadcast S8x512 t)) (broadcast S8x512 2155905152#32))

/-- The lower sixteen rows of the words' bytes as floats, times a group's row of the pair buffer. -/
abbrev group0 (c : IVec S8x512 32) (raw : Vec Ideal S1x2x512 .bf16) : FVec Ideal S16x512 .bf16 :=
  shapeCast S16x512 (mulf (extractStridedSlice S16x512 ![0, 0] (sitofp .bf16 (bitcast S32x512 8 c bitcasts_S8x512_w32_S32x512_w8) : FVec Ideal S32x512 .bf16) slices_S32x512_o0_0_S16x512) (k1_pay9 raw)) shapeCasts_S16x512_S16x512

/-- The upper sixteen rows, the same. -/
abbrev group1 (c : IVec S8x512 32) (raw : Vec Ideal S1x2x512 .bf16) : FVec Ideal S16x512 .bf16 :=
  shapeCast S16x512 (mulf (extractStridedSlice S16x512 ![16, 0] (sitofp .bf16 (bitcast S32x512 8 c bitcasts_S8x512_w32_S32x512_w8) : FVec Ideal S32x512 .bf16) slices_S32x512_o16_0_S16x512) (k1_pay9 raw)) shapeCasts_S16x512_S16x512

theorem group0_apply (c : IVec S8x512 32) (raw : Vec Ideal S1x2x512 .bf16) (p : Fin 16) (l : Fin 512) :
    group0 c raw (ix2 p l) = (((bitcast S32x512 8 c bitcasts_S8x512_w32_S32x512_w8 (ValueIdx.ix2 ⟨p.val, by omega⟩ l)).toInt : ℝ) : EReal) * raw (ix3 0 ⟨p.val % 2, by omega⟩ l) := by
  rw [← pay9_apply raw p l, ← ix2_eq]
  pointwise []
  rfl

theorem group1_apply (c : IVec S8x512 32) (raw : Vec Ideal S1x2x512 .bf16) (p : Fin 16) (l : Fin 512) :
    group1 c raw (ix2 p l) = (((bitcast S32x512 8 c bitcasts_S8x512_w32_S32x512_w8 (ValueIdx.ix2 ⟨16 + p.val, by omega⟩ l)).toInt : ℝ) : EReal) * raw (ix3 0 ⟨p.val % 2, by omega⟩ l) := by
  rw [← pay9_apply raw p l, ← ix2_eq]
  pointwise []
  rfl

variable (x1 : Vec Ideal S28x64x512 .i8) (x2 : Vec Ideal S28x32x512 .i8) (x3 : Vec Ideal S28x12x512 .i8) (x4 : Vec Ideal S28x512 .f32)

/-- The tile of weights at row `r` (block `r / 256`) and column `l`: the code times the group's scale times the block's. -/
def tileAt (r : Fin 7168) (l : Fin 512) : EReal :=
  ((code (x1 (ix3 ⟨r.val / 256, by omega⟩ ⟨32 * (r.val % 256 / 128) + r.val % 32, by omega⟩ l)) (x2 (ix3 ⟨r.val / 256, by omega⟩ ⟨r.val % 32, by omega⟩ l))
      (r.val % 128 / 32) (r.val % 256 / 32) : ℝ) : EReal)
    * (x4 (ix2 ⟨r.val / 256, by omega⟩ l) * (((swd (fun a => x3 (ix3 ⟨r.val / 256, by omega⟩ a l)) ⟨r.val % 256 / 16, by omega⟩).toInt : ℝ) : EReal))

/-- The tile of weights as a vector. -/
def tileG (y : S7168x512.Idx) : Elt Ideal .bf16 := tileAt x1 x2 x3 x4 (y 0) (y 1)

/-- Thirty-two times a number, times a thirty-second of a scale, is the number times the scale. -/
theorem scale_back (z : ℤ) (e : EReal) : (((32 * z : ℤ) : ℝ) : EReal) * (e * (((1 / 32 : ℝ)) : EReal)) = ((z : ℝ) : EReal) * e := by
  rw [mul_comm e, ← mul_assoc, ← EReal.coe_mul]
  congr 2
  push_cast; ring

/-- What a trip writes at a row of group `i`: from a byte whose value is thirty-two times the code and the group's row of
    the pair buffer, the tile at that row. -/
theorem group_tile (k : Fin 28) (i : Fin 16) (p : Fin 16) (l : Fin 512) (r : Fin 7168) (hr : r.val = 256 * k.val + 16 * i.val + p.val)
    (Q H : Vec Ideal S1x32x512 .i8) (R : Vec Ideal S1x2x512 .bf16)
    (hQ : ∀ (a : Fin 32) (l : Fin 512), Q (ix3 0 a l) = x1 (ix3 k ⟨32 * (i.val / 8) + a.val, by omega⟩ l))
    (hH : ∀ (a : Fin 32) (l : Fin 512), H (ix3 0 a l) = x2 (ix3 k a l))
    (hR : ∀ (u : Fin 2) (l : Fin 512), R (ix3 0 u l) = x4 (ix2 k l) * (((swd (fun a => x3 (ix3 k a l)) i).toInt : ℝ) : EReal) * (((1 / 32 : ℝ)) : EReal))
    (a : Fin 32) (ha : a.val = 16 * (i.val % 2) + p.val) (b : BitVec 8) (u : Fin 2)
    (hb : b.toInt = 32 * code (Q (ix3 0 a l)) (H (ix3 0 a l)) (i.val / 2 % 4) (i.val / 2)) :
    ((b.toInt : ℝ) : EReal) * R (ix3 0 u l) = tileAt x1 x2 x3 x4 r l := by
  rw [hb, hR, hQ, hH, scale_back]
  have e1 : r.val / 256 = k.val := by omega
  have e2 : r.val % 32 = a.val := by omega
  have e3 : r.val % 256 / 128 = i.val / 8 := by omega
  have e4 : r.val % 128 / 32 = i.val / 2 % 4 := by omega
  have e5 : r.val % 256 / 32 = i.val / 2 := by omega
  have e6 : r.val % 256 / 16 = i.val := by omega
  unfold tileAt
  simp only [e1, e2, e3, e4, e5, e6]

theorem readQ0 (k : Fin k1_t1_loop.trips) (hk : k.val < 28) (m : Memref sig .tc .vmem S28x64x512 .i8) (hm : m.IsWhole)
    (inb : ∀ a, k1_off4 k a + S1x32x512.size a ≤ S28x64x512.size a) (a : Fin 32) (l : Fin 512) :
    View.readAt (Elt Ideal) m.view (Rect.unit (s := S28x64x512) (k1_off4 k) S1x32x512.size inb).toLoadRect (hm.unread x1) (ix3 0 a l) = x1 (ix3 ⟨k.val, hk⟩ ⟨32 * 0 + a.val, by omega⟩ l) := by
  rw [hm.readAt_unread]
  congr 1
  funext b
  have e := k1_off4_eq k
  match b with
  | ⟨0, _⟩ => exact Fin.ext (by show k1_off4 k 0 + 1 * 0 = k.val; rw [e]; rfl)
  | ⟨1, _⟩ => exact Fin.ext (by show k1_off4 k 1 + 1 * a.val = 32 * 0 + a.val; rw [e]; show 0 + 1 * a.val = _; omega)
  | ⟨2, _⟩ => exact Fin.ext (by show k1_off4 k 2 + 1 * l.val = l.val; rw [e]; show 0 + 1 * l.val = _; omega)

theorem readQ1 (k : Fin k1_t1_loop.trips) (hk : k.val < 28) (m : Memref sig .tc .vmem S28x64x512 .i8) (hm : m.IsWhole)
    (inb : ∀ a, k1_off6 k a + S1x32x512.size a ≤ S28x64x512.size a) (a : Fin 32) (l : Fin 512) :
    View.readAt (Elt Ideal) m.view (Rect.unit (s := S28x64x512) (k1_off6 k) S1x32x512.size inb).toLoadRect (hm.unread x1) (ix3 0 a l) = x1 (ix3 ⟨k.val, hk⟩ ⟨32 * 1 + a.val, by omega⟩ l) := by
  rw [hm.readAt_unread]
  congr 1
  funext b
  have e := k1_off6_eq k
  match b with
  | ⟨0, _⟩ => exact Fin.ext (by show k1_off6 k 0 + 1 * 0 = k.val; rw [e]; rfl)
  | ⟨1, _⟩ => exact Fin.ext (by show k1_off6 k 1 + 1 * a.val = 32 * 1 + a.val; rw [e]; show 32 + 1 * a.val = _; omega)
  | ⟨2, _⟩ => exact Fin.ext (by show k1_off6 k 2 + 1 * l.val = l.val; rw [e]; show 0 + 1 * l.val = _; omega)

theorem readH (k : Fin k1_t1_loop.trips) (hk : k.val < 28) (m : Memref sig .tc .vmem S28x32x512 .i8) (hm : m.IsWhole)
    (inb : ∀ a, k1_off3 k a + S1x32x512.size a ≤ S28x32x512.size a) (a : Fin 32) (l : Fin 512) :
    View.readAt (Elt Ideal) m.view (Rect.unit (s := S28x32x512) (k1_off3 k) S1x32x512.size inb).toLoadRect (hm.unread x2) (ix3 0 a l) = x2 (ix3 ⟨k.val, hk⟩ a l) := by
  rw [hm.readAt_unread]
  congr 1
  funext b
  have e := k1_off3_eq k
  match b with
  | ⟨0, _⟩ => exact Fin.ext (by show k1_off3 k 0 + 1 * 0 = k.val; rw [e]; rfl)
  | ⟨1, _⟩ => exact Fin.ext (by show k1_off3 k 1 + 1 * a.val = a.val; rw [e]; show 0 + 1 * a.val = _; omega)
  | ⟨2, _⟩ => exact Fin.ext (by show k1_off3 k 2 + 1 * l.val = l.val; rw [e]; show 0 + 1 * l.val = _; omega)

theorem readS (k : Fin k1_t1_loop.trips) (hk : k.val < 28) (m : Memref sig .tc .vmem S28x12x512 .i8) (hm : m.IsWhole)
    (inb : ∀ a, k1_off1 k a + S1x12x512.size a ≤ S28x12x512.size a) (a : Fin 12) (l : Fin 512) :
    View.readAt (Elt Ideal) m.view (Rect.unit (s := S28x12x512) (k1_off1 k) S1x12x512.size inb).toLoadRect (hm.unread x3) (ix3 0 a l) = x3 (ix3 ⟨k.val, hk⟩ a l) := by
  rw [hm.readAt_unread]
  congr 1
  funext b
  have e := k1_off1_eq k
  match b with
  | ⟨0, _⟩ => exact Fin.ext (by show k1_off1 k 0 + 1 * 0 = k.val; rw [e]; rfl)
  | ⟨1, _⟩ => exact Fin.ext (by show k1_off1 k 1 + 1 * a.val = a.val; rw [e]; show 0 + 1 * a.val = _; omega)
  | ⟨2, _⟩ => exact Fin.ext (by show k1_off1 k 2 + 1 * l.val = l.val; rw [e]; show 0 + 1 * l.val = _; omega)

theorem readD (k : Fin k1_t1_loop.trips) (hk : k.val < 28) (m : Memref sig .tc .vmem S28x512 .f32) (hm : m.IsWhole)
    (inb : ∀ a, k1_off2 k a + S1x512.size a ≤ S28x512.size a) (l : Fin 512) :
    View.readAt (Elt Ideal) m.view (Rect.unit (s := S28x512) (k1_off2 k) S1x512.size inb).toLoadRect (hm.unread x4) (ix2 0 l) = x4 (ix2 ⟨k.val, hk⟩ l) := by
  rw [hm.readAt_unread]
  congr 1
  funext b
  have e := k1_off2_eq k
  match b with
  | ⟨0, _⟩ => exact Fin.ext (by show k1_off2 k 0 + 1 * 0 = k.val; rw [e]; rfl)
  | ⟨1, _⟩ => exact Fin.ext (by show k1_off2 k 1 + 1 * l.val = l.val; rw [e]; show 0 + 1 * l.val = _; omega)

theorem pay3_apply (v : Vec Ideal S1x512 .f32) (l : Fin 512) : k1_pay3 (F := Ideal) v (ix2 0 l) = v (ix2 0 l) := by
  pointwise [k1_pay3]

/-- Group `i`'s row of the pair buffer, as a trip loads it: the block's scale times the group's, over thirty-two. -/
theorem readR (k : Fin k1_t1_loop.trips) (hk : k.val < 28) (m5 : Memref sig .tc .vmem S28x12x512 .i8) (hm5 : m5.IsWhole)
    (m6 : Memref sig .tc .vmem S28x512 .f32) (hm6 : m6.IsWhole) (m9 : Memref sig .tc .vmem S16x2x512 .bf16)
    (inb5 : ∀ a, k1_off1 k a + S1x12x512.size a ≤ S28x12x512.size a) (inb6 : ∀ a, k1_off2 k a + S1x512.size a ≤ S28x512.size a)
    (inb0 : ∀ a, (![0, 0, 0] : Fin 3 → ℕ) a + S16x2x512.size a ≤ S16x2x512.size a)
    (i : Fin 16) (inbi : ∀ a, (![i.val, 0, 0] : Fin 3 → ℕ) a + S1x2x512.size a ≤ S16x2x512.size a) (u : Fin 2) (l : Fin 512) :
    m9.view.readCov [⟨Rect.unit (s := S16x2x512) ![0, 0, 0] S16x2x512.size inb0, k1_pay5 (F := Ideal)
        (k1_pay3 (View.readAt (Elt Ideal) m6.view (Rect.unit (s := S28x512) (k1_off2 k) S1x512.size inb6).toLoadRect (hm6.unread x4)))
        (k1_pay4 (View.readAt (Elt Ideal) m5.view (Rect.unit (s := S28x12x512) (k1_off1 k) S1x12x512.size inb5).toLoadRect (hm5.unread x3)))⟩]
      (Rect.unit (s := S16x2x512) ![i.val, 0, 0] S1x2x512.size inbi).toLoadRect (ix3 0 u l)
      = x4 (ix2 ⟨k.val, hk⟩ l) * (((swd (fun a => x3 (ix3 ⟨k.val, hk⟩ a l)) i).toInt : ℝ) : EReal) * (((1 / 32 : ℝ)) : EReal) := by
  rw [View.readCov_fill _ _ _ _ _ (show ∀ a : Fin 3, (![0, 0, 0] : Fin 3 → ℕ) a = 0 by decide)]
  refine Eq.trans (b := k1_pay5 (F := Ideal)
        (k1_pay3 (View.readAt (Elt Ideal) m6.view (Rect.unit (s := S28x512) (k1_off2 k) S1x512.size inb6).toLoadRect (hm6.unread x4)))
        (k1_pay4 (View.readAt (Elt Ideal) m5.view (Rect.unit (s := S28x12x512) (k1_off1 k) S1x12x512.size inb5).toLoadRect (hm5.unread x3))) (ix3 i u l)) ?_ ?_
  · refine congrArg (k1_pay5 (F := Ideal) _ _) ?_
    funext b
    match b with
    | ⟨0, _⟩ => exact Fin.ext (by show i.val + 1 * 0 = i.val; omega)
    | ⟨1, _⟩ => exact Fin.ext (by show 0 + 1 * u.val = u.val; omega)
    | ⟨2, _⟩ => exact Fin.ext (by show 0 + 1 * l.val = l.val; omega)
  · rw [pay5_apply, pay3_apply, pay4_apply, readD x4 k hk]
    simp only [readS x3 k hk]

/-- A piece of group `i` (lower sixteen rows of the words, low bits shifted to the left) is a block of the tile. -/
theorem piece0L (k : Fin 28) (i : Fin 16) (s t : ℕ) (hs : s = 5 - 2 * (i.val / 2 % 4)) (hj : i.val / 2 % 4 < 3) (ht : t = 7 - i.val / 2) (hu : i.val % 2 = 0)
    (Q H : Vec Ideal S1x32x512 .i8) (R : Vec Ideal S1x2x512 .bf16)
    (hQ : ∀ (a : Fin 32) (l : Fin 512), Q (ix3 0 a l) = x1 (ix3 k ⟨32 * (i.val / 8) + a.val, by omega⟩ l))
    (hH : ∀ (a : Fin 32) (l : Fin 512), H (ix3 0 a l) = x2 (ix3 k a l))
    (hR : ∀ (u : Fin 2) (l : Fin 512), R (ix3 0 u l) = x4 (ix2 k l) * (((swd (fun a => x3 (ix3 k a l)) i).toInt : ℝ) : EReal) * (((1 / 32 : ℝ)) : EReal))
    (off : Fin 2 → ℕ) (inb : ∀ a, off a + (![16, 512] : Fin 2 → ℕ) a ≤ S7168x512.size a) (hoff : off = ![256 * k.val + 16 * i.val, 0])
    (P : FVec Ideal S16x512 .bf16) (hP : P = group0 (wordsL (k1_pay7 Q) (k1_pay6 H) (BitVec.ofNat 32 s) (BitVec.ofNat 32 t)) R) (x : (Rect.unit (s := S7168x512) off ![16, 512] inb).shape.Idx) :
    P x = tileG x1 x2 x3 x4 ((Rect.unit (s := S7168x512) off ![16, 512] inb).emb x) := by
  subst hoff hP
  obtain ⟨p, l, rfl⟩ : ∃ (p : Fin 16) (l : Fin 512), x = ix2 p l := ⟨x 0, x 1, by funext a; match a with | ⟨0, _⟩ => rfl | ⟨1, _⟩ => rfl⟩
  have hg := group0_apply (wordsL (k1_pay7 Q) (k1_pay6 H) (BitVec.ofNat 32 s) (BitVec.ofNat 32 t)) R p l
  have hcode := joinB_left (Q (ix3 0 ⟨p.val, by omega⟩ l)) (H (ix3 0 ⟨p.val, by omega⟩ l)) ⟨i.val / 2 % 4, hj⟩ ⟨i.val / 2, by omega⟩
  have hbyte := left_byte (shapeCast S32x512 Q shapeCasts_S1x32x512_S32x512) (shapeCast S32x512 H shapeCasts_S1x32x512_S32x512) ⟨p.val, by omega⟩ l s t (by omega) (by omega)
  rw [cast1, cast1] at hbyte
  subst hs ht
  have hG : tileG x1 x2 x3 x4 ((Rect.unit (s := S7168x512) ![256 * k.val + 16 * i.val, 0] ![16, 512] inb).emb (ix2 p l))
      = tileAt x1 x2 x3 x4 ⟨256 * k.val + 16 * i.val + p.val, by omega⟩ l := by
    unfold tileG
    congr 1
    · exact Fin.ext (rect_emb_unit_val _ _ _ _ _)
    · exact Fin.ext ((rect_emb_unit_val _ _ _ _ _).trans (Nat.zero_add l.val))
  rw [hG]
  refine hg.trans ?_
  exact group_tile x1 x2 x3 x4 k i p l ⟨256 * k.val + 16 * i.val + p.val, by omega⟩ rfl Q H R hQ hH hR ⟨p.val, by omega⟩ (by show _ = 16 * (i.val % 2) + p.val; rw [hu]; first | done | (show p.val = _; omega)) _ _
    ((congrArg BitVec.toInt hbyte).trans (hcode))

/-- A piece of group `i` (lower sixteen rows of the words, low bits shifted to the right) is a block of the tile. -/
theorem piece0R (k : Fin 28) (i : Fin 16) (t : ℕ) (hj : i.val / 2 % 4 = 3) (ht : t = 7 - i.val / 2) (hu : i.val % 2 = 0)
    (Q H : Vec Ideal S1x32x512 .i8) (R : Vec Ideal S1x2x512 .bf16)
    (hQ : ∀ (a : Fin 32) (l : Fin 512), Q (ix3 0 a l) = x1 (ix3 k ⟨32 * (i.val / 8) + a.val, by omega⟩ l))
    (hH : ∀ (a : Fin 32) (l : Fin 512), H (ix3 0 a l) = x2 (ix3 k a l))
    (hR : ∀ (u : Fin 2) (l : Fin 512), R (ix3 0 u l) = x4 (ix2 k l) * (((swd (fun a => x3 (ix3 k a l)) i).toInt : ℝ) : EReal) * (((1 / 32 : ℝ)) : EReal))
    (off : Fin 2 → ℕ) (inb : ∀ a, off a + (![16, 512] : Fin 2 → ℕ) a ≤ S7168x512.size a) (hoff : off = ![256 * k.val + 16 * i.val, 0])
    (P : FVec Ideal S16x512 .bf16) (hP : P = group0 (wordsR (k1_pay7 Q) (k1_pay6 H) (BitVec.ofNat 32 t)) R) (x : (Rect.unit (s := S7168x512) off ![16, 512] inb).shape.Idx) :
    P x = tileG x1 x2 x3 x4 ((Rect.unit (s := S7168x512) off ![16, 512] inb).emb x) := by
  subst hoff hP
  obtain ⟨p, l, rfl⟩ : ∃ (p : Fin 16) (l : Fin 512), x = ix2 p l := ⟨x 0, x 1, by funext a; match a with | ⟨0, _⟩ => rfl | ⟨1, _⟩ => rfl⟩
  have hg := group0_apply (wordsR (k1_pay7 Q) (k1_pay6 H) (BitVec.ofNat 32 t)) R p l
  have hcode := joinB_right (Q (ix3 0 ⟨p.val, by omega⟩ l)) (H (ix3 0 ⟨p.val, by omega⟩ l)) ⟨i.val / 2, by omega⟩
  have hbyte := right_byte (shapeCast S32x512 Q shapeCasts_S1x32x512_S32x512) (shapeCast S32x512 H shapeCasts_S1x32x512_S32x512) ⟨p.val, by omega⟩ l t (by omega)
  rw [cast1, cast1] at hbyte
  subst ht
  have hG : tileG x1 x2 x3 x4 ((Rect.unit (s := S7168x512) ![256 * k.val + 16 * i.val, 0] ![16, 512] inb).emb (ix2 p l))
      = tileAt x1 x2 x3 x4 ⟨256 * k.val + 16 * i.val + p.val, by omega⟩ l := by
    unfold tileG
    congr 1
    · exact Fin.ext (rect_emb_unit_val _ _ _ _ _)
    · exact Fin.ext ((rect_emb_unit_val _ _ _ _ _).trans (Nat.zero_add l.val))
  rw [hG]
  refine hg.trans ?_
  exact group_tile x1 x2 x3 x4 k i p l ⟨256 * k.val + 16 * i.val + p.val, by omega⟩ rfl Q H R hQ hH hR ⟨p.val, by omega⟩ (by show _ = 16 * (i.val % 2) + p.val; rw [hu]; first | done | (show p.val = _; omega)) _ _
    ((congrArg BitVec.toInt hbyte).trans (by rw [hj]; exact hcode))

/-- A piece of group `i` (upper sixteen rows of the words, low bits shifted to the left) is a block of the tile. -/
theorem piece1L (k : Fin 28) (i : Fin 16) (s t : ℕ) (hs : s = 5 - 2 * (i.val / 2 % 4)) (hj : i.val / 2 % 4 < 3) (ht : t = 7 - i.val / 2) (hu : i.val % 2 = 1)
    (Q H : Vec Ideal S1x32x512 .i8) (R : Vec Ideal S1x2x512 .bf16)
    (hQ : ∀ (a : Fin 32) (l : Fin 512), Q (ix3 0 a l) = x1 (ix3 k ⟨32 * (i.val / 8) + a.val, by omega⟩ l))
    (hH : ∀ (a : Fin 32) (l : Fin 512), H (ix3 0 a l) = x2 (ix3 k a l))
    (hR : ∀ (u : Fin 2) (l : Fin 512), R (ix3 0 u l) = x4 (ix2 k l) * (((swd (fun a => x3 (ix3 k a l)) i).toInt : ℝ) : EReal) * (((1 / 32 : ℝ)) : EReal))
    (off : Fin 2 → ℕ) (inb : ∀ a, off a + (![16, 512] : Fin 2 → ℕ) a ≤ S7168x512.size a) (hoff : off = ![256 * k.val + 16 * i.val, 0])
    (P : FVec Ideal S16x512 .bf16) (hP : P = group1 (wordsL (k1_pay7 Q) (k1_pay6 H) (BitVec.ofNat 32 s) (BitVec.ofNat 32 t)) R) (x : (Rect.unit (s := S7168x512) off ![16, 512] inb).shape.Idx) :
    P x = tileG x1 x2 x3 x4 ((Rect.unit (s := S7168x512) off ![16, 512] inb).emb x) := by
  subst hoff hP
  obtain ⟨p, l, rfl⟩ : ∃ (p : Fin 16) (l : Fin 512), x = ix2 p l := ⟨x 0, x 1, by funext a; match a with | ⟨0, _⟩ => rfl | ⟨1, _⟩ => rfl⟩
  have hg := group1_apply (wordsL (k1_pay7 Q) (k1_pay6 H) (BitVec.ofNat 32 s) (BitVec.ofNat 32 t)) R p l
  have hcode := joinB_left (Q (ix3 0 ⟨16 + p.val, by omega⟩ l)) (H (ix3 0 ⟨16 + p.val, by omega⟩ l)) ⟨i.val / 2 % 4, hj⟩ ⟨i.val / 2, by omega⟩
  have hbyte := left_byte (shapeCast S32x512 Q shapeCasts_S1x32x512_S32x512) (shapeCast S32x512 H shapeCasts_S1x32x512_S32x512) ⟨16 + p.val, by omega⟩ l s t (by omega) (by omega)
  rw [cast1, cast1] at hbyte
  subst hs ht
  have hG : tileG x1 x2 x3 x4 ((Rect.unit (s := S7168x512) ![256 * k.val + 16 * i.val, 0] ![16, 512] inb).emb (ix2 p l))
      = tileAt x1 x2 x3 x4 ⟨256 * k.val + 16 * i.val + p.val, by omega⟩ l := by
    unfold tileG
    congr 1
    · exact Fin.ext (rect_emb_unit_val _ _ _ _ _)
    · exact Fin.ext ((rect_emb_unit_val _ _ _ _ _).trans (Nat.zero_add l.val))
  rw [hG]
  refine hg.trans ?_
  exact group_tile x1 x2 x3 x4 k i p l ⟨256 * k.val + 16 * i.val + p.val, by omega⟩ rfl Q H R hQ hH hR ⟨16 + p.val, by omega⟩ (by show _ = 16 * (i.val % 2) + p.val; rw [hu]; first | done | (show p.val = _; omega)) _ _
    ((congrArg BitVec.toInt hbyte).trans (hcode))

/-- A piece of group `i` (upper sixteen rows of the words, low bits shifted to the right) is a block of the tile. -/
theorem piece1R (k : Fin 28) (i : Fin 16) (t : ℕ) (hj : i.val / 2 % 4 = 3) (ht : t = 7 - i.val / 2) (hu : i.val % 2 = 1)
    (Q H : Vec Ideal S1x32x512 .i8) (R : Vec Ideal S1x2x512 .bf16)
    (hQ : ∀ (a : Fin 32) (l : Fin 512), Q (ix3 0 a l) = x1 (ix3 k ⟨32 * (i.val / 8) + a.val, by omega⟩ l))
    (hH : ∀ (a : Fin 32) (l : Fin 512), H (ix3 0 a l) = x2 (ix3 k a l))
    (hR : ∀ (u : Fin 2) (l : Fin 512), R (ix3 0 u l) = x4 (ix2 k l) * (((swd (fun a => x3 (ix3 k a l)) i).toInt : ℝ) : EReal) * (((1 / 32 : ℝ)) : EReal))
    (off : Fin 2 → ℕ) (inb : ∀ a, off a + (![16, 512] : Fin 2 → ℕ) a ≤ S7168x512.size a) (hoff : off = ![256 * k.val + 16 * i.val, 0])
    (P : FVec Ideal S16x512 .bf16) (hP : P = group1 (wordsR (k1_pay7 Q) (k1_pay6 H) (BitVec.ofNat 32 t)) R) (x : (Rect.unit (s := S7168x512) off ![16, 512] inb).shape.Idx) :
    P x = tileG x1 x2 x3 x4 ((Rect.unit (s := S7168x512) off ![16, 512] inb).emb x) := by
  subst hoff hP
  obtain ⟨p, l, rfl⟩ : ∃ (p : Fin 16) (l : Fin 512), x = ix2 p l := ⟨x 0, x 1, by funext a; match a with | ⟨0, _⟩ => rfl | ⟨1, _⟩ => rfl⟩
  have hg := group1_apply (wordsR (k1_pay7 Q) (k1_pay6 H) (BitVec.ofNat 32 t)) R p l
  have hcode := joinB_right (Q (ix3 0 ⟨16 + p.val, by omega⟩ l)) (H (ix3 0 ⟨16 + p.val, by omega⟩ l)) ⟨i.val / 2, by omega⟩
  have hbyte := right_byte (shapeCast S32x512 Q shapeCasts_S1x32x512_S32x512) (shapeCast S32x512 H shapeCasts_S1x32x512_S32x512) ⟨16 + p.val, by omega⟩ l t (by omega)
  rw [cast1, cast1] at hbyte
  subst ht
  have hG : tileG x1 x2 x3 x4 ((Rect.unit (s := S7168x512) ![256 * k.val + 16 * i.val, 0] ![16, 512] inb).emb (ix2 p l))
      = tileAt x1 x2 x3 x4 ⟨256 * k.val + 16 * i.val + p.val, by omega⟩ l := by
    unfold tileG
    congr 1
    · exact Fin.ext (rect_emb_unit_val _ _ _ _ _)
    · exact Fin.ext ((rect_emb_unit_val _ _ _ _ _).trans (Nat.zero_add l.val))
  rw [hG]
  refine hg.trans ?_
  exact group_tile x1 x2 x3 x4 k i p l ⟨256 * k.val + 16 * i.val + p.val, by omega⟩ rfl Q H R hQ hH hR ⟨16 + p.val, by omega⟩ (by show _ = 16 * (i.val % 2) + p.val; rw [hu]; first | done | (show p.val = _; omega)) _ _
    ((congrArg BitVec.toInt hbyte).trans (by rw [hj]; exact hcode))

set_option maxHeartbeats 2000000 in
/-- Every piece one trip of the loop writes into the scratch is a block of the tile. -/
theorem trip_tile (c : Dev nD) (i : grid1.Coords) (arg2 : Memref sig .tc .vmem S1024x7168 .bf16) (harg2 : arg2.IsWhole) (arg3 : Memref sig .tc .vmem S28x64x512 .i8) (harg3 : arg3.IsWhole) (arg4 : Memref sig .tc .vmem S28x32x512 .i8) (harg4 : arg4.IsWhole) (arg5 : Memref sig .tc .vmem S28x12x512 .i8) (harg5 : arg5.IsWhole) (arg6 : Memref sig .tc .vmem S28x512 .f32) (harg6 : arg6.IsWhole) (arg7 : Memref sig .tc .vmem S1024x512 .bf16) (harg7 : arg7.IsWhole) (arg8 : Memref sig .tc .vmem S7168x512 .bf16) (harg8 : arg8.IsWhole) (arg9 : Memref sig .tc .vmem S16x2x512 .bf16) (harg9 : arg9.IsWhole) (h : k1_cond1 i = 1#1)
    (k : Fin k1_t1_loop.trips) (f8 : BufTy.Contents (Elt Ideal) arg8.view.ty) (f9 : BufTy.Contents (Elt Ideal) arg9.view.ty) :
    View.PiecesOf (tileG x1 x2 x3 x4) (tripL_k1_t1 (F := Ideal) Variants.none c none i arg2 harg2 arg3 harg3 arg4 harg4 arg5 harg5 arg6 harg6 arg7 harg7 arg8 harg8 arg9 harg9 h (harg3.unread x1) (harg4.unread x2) (harg5.unread x3) (harg6.unread x4) k f8 f9).1 := by
  have hk : k.val < 28 := Nat.lt_of_lt_of_le k.isLt k1_t1_abs.2.1
  have hQ0 := readQ0 x1 k hk arg3 harg3 (k1_off4_inb i k h)
  have hQ1 := readQ1 x1 k hk arg3 harg3 (k1_off6_inb i k h)
  have hH := readH x2 k hk arg4 harg4 (k1_off3_inb i k h)
  have hin : ∀ (g : Fin 16) (a : Fin 3), (![g.val, 0, 0] : Fin 3 → ℕ) a + S1x2x512.size a ≤ S16x2x512.size a := by decide
  have hR := fun g : Fin 16 => readR x3 x4 k hk arg5 harg5 arg6 harg6 arg9 (k1_off1_inb i k h) (k1_off2_inb i k h) inb_S16x2x512_S16x2x512_0_0_0 g (hin g)
  unfold tripL_k1_t1 trip_k1_t1
  dsimp only
  sl_unfold_run_names
  refine ⟨?_, ?_, ?_, ?_, ?_, ?_, ?_, ?_, ?_, ?_, ?_, ?_, ?_, ?_, ?_, ?_, trivial⟩
  · exact piece1R x1 x2 x3 x4 ⟨k.val, hk⟩ 15 0 rfl rfl rfl _ _ _ hQ1 hH (hR 15) _ (k1_off5_inb i k h 15) (k1_off5_eq k 15) _ rfl
  · exact piece0R x1 x2 x3 x4 ⟨k.val, hk⟩ 14 0 rfl rfl rfl _ _ _ hQ1 hH (hR 14) _ (k1_off5_inb i k h 14) (k1_off5_eq k 14) _ rfl
  · exact piece1L x1 x2 x3 x4 ⟨k.val, hk⟩ 13 1 1 rfl (by decide) rfl rfl _ _ _ hQ1 hH (hR 13) _ (k1_off5_inb i k h 13) (k1_off5_eq k 13) _ rfl
  · exact piece0L x1 x2 x3 x4 ⟨k.val, hk⟩ 12 1 1 rfl (by decide) rfl rfl _ _ _ hQ1 hH (hR 12) _ (k1_off5_inb i k h 12) (k1_off5_eq k 12) _ rfl
  · exact piece1L x1 x2 x3 x4 ⟨k.val, hk⟩ 11 3 2 rfl (by decide) rfl rfl _ _ _ hQ1 hH (hR 11) _ (k1_off5_inb i k h 11) (k1_off5_eq k 11) _ rfl
  · exact piece0L x1 x2 x3 x4 ⟨k.val, hk⟩ 10 3 2 rfl (by decide) rfl rfl _ _ _ hQ1 hH (hR 10) _ (k1_off5_inb i k h 10) (k1_off5_eq k 10) _ rfl
  · exact piece1L x1 x2 x3 x4 ⟨k.val, hk⟩ 9 5 3 rfl (by decide) rfl rfl _ _ _ hQ1 hH (hR 9) _ (k1_off5_inb i k h 9) (k1_off5_eq k 9) _ rfl
  · exact piece0L x1 x2 x3 x4 ⟨k.val, hk⟩ 8 5 3 rfl (by decide) rfl rfl _ _ _ hQ1 hH (hR 8) _ (k1_off5_inb i k h 8) (k1_off5_eq k 8) _ rfl
  · exact piece1R x1 x2 x3 x4 ⟨k.val, hk⟩ 7 4 rfl rfl rfl _ _ _ hQ0 hH (hR 7) _ (k1_off5_inb i k h 7) (k1_off5_eq k 7) _ rfl
  · exact piece0R x1 x2 x3 x4 ⟨k.val, hk⟩ 6 4 rfl rfl rfl _ _ _ hQ0 hH (hR 6) _ (k1_off5_inb i k h 6) (k1_off5_eq k 6) _ rfl
  · exact piece1L x1 x2 x3 x4 ⟨k.val, hk⟩ 5 1 5 rfl (by decide) rfl rfl _ _ _ hQ0 hH (hR 5) _ (k1_off5_inb i k h 5) (k1_off5_eq k 5) _ rfl
  · exact piece0L x1 x2 x3 x4 ⟨k.val, hk⟩ 4 1 5 rfl (by decide) rfl rfl _ _ _ hQ0 hH (hR 4) _ (k1_off5_inb i k h 4) (k1_off5_eq k 4) _ rfl
  · exact piece1L x1 x2 x3 x4 ⟨k.val, hk⟩ 3 3 6 rfl (by decide) rfl rfl _ _ _ hQ0 hH (hR 3) _ (k1_off5_inb i k h 3) (k1_off5_eq k 3) _ rfl
  · exact piece0L x1 x2 x3 x4 ⟨k.val, hk⟩ 2 3 6 rfl (by decide) rfl rfl _ _ _ hQ0 hH (hR 2) _ (k1_off5_inb i k h 2) (k1_off5_eq k 2) _ rfl
  · exact piece1L x1 x2 x3 x4 ⟨k.val, hk⟩ 1 5 7 rfl (by decide) rfl rfl _ _ _ hQ0 hH (hR 1) _ (k1_off5_inb i k h 1) (k1_off5_eq k 1) _ rfl
  · exact piece0L x1 x2 x3 x4 ⟨k.val, hk⟩ 0 5 7 rfl (by decide) rfl rfl _ _ _ hQ0 hH (hR 0) _ (k1_off5_inb i k h 0) (k1_off5_eq k 0) _ rfl

/-- Every piece of the trips before `n` is a block of the tile. -/
theorem pb_tile (c : Dev nD) (i : grid1.Coords) (arg2 : Memref sig .tc .vmem S1024x7168 .bf16) (harg2 : arg2.IsWhole) (arg3 : Memref sig .tc .vmem S28x64x512 .i8) (harg3 : arg3.IsWhole) (arg4 : Memref sig .tc .vmem S28x32x512 .i8) (harg4 : arg4.IsWhole) (arg5 : Memref sig .tc .vmem S28x12x512 .i8) (harg5 : arg5.IsWhole) (arg6 : Memref sig .tc .vmem S28x512 .f32) (harg6 : arg6.IsWhole) (arg7 : Memref sig .tc .vmem S1024x512 .bf16) (harg7 : arg7.IsWhole) (arg8 : Memref sig .tc .vmem S7168x512 .bf16) (harg8 : arg8.IsWhole) (arg9 : Memref sig .tc .vmem S16x2x512 .bf16) (harg9 : arg9.IsWhole) (h : k1_cond1 i = 1#1) (G8 : BufTy.Contents (Elt Ideal) arg8.view.ty) (G9 : BufTy.Contents (Elt Ideal) arg9.view.ty) :
    ∀ n : ℕ, n ≤ k1_t1_loop.trips → ∀ p ∈ (pb_k1_t1 (F := Ideal) Variants.none c none i arg2 harg2 arg3 harg3 arg4 harg4 arg5 harg5 arg6 harg6 arg7 harg7 arg8 harg8 arg9 harg9 h (harg3.unread x1) (harg4.unread x2) (harg5.unread x3) (harg6.unread x4) G8 G9 n).1,
      ∀ x : p.1.shape.Idx, p.2 x = tileG x1 x2 x3 x4 (p.1.emb x) := by
  intro n
  induction n with
  | zero => intro _ p hp; rw [pb_k1_t1.eq_1] at hp; exact absurd hp (List.not_mem_nil)
  | succ n ih =>
    intro hn p hp
    rw [pb_k1_t1_succ (F := Ideal) Variants.none c none i arg2 harg2 arg3 harg3 arg4 harg4 arg5 harg5 arg6 harg6 arg7 harg7 arg8 harg8 arg9 harg9 h (harg3.unread x1) (harg4.unread x2) (harg5.unread x3) (harg6.unread x4) G8 G9 ⟨n, hn⟩] at hp
    rcases List.mem_append.1 hp with hp | hp
    · exact View.PiecesOf.mem (trip_tile x1 x2 x3 x4 c i arg2 harg2 arg3 harg3 arg4 harg4 arg5 harg5 arg6 harg6 arg7 harg7 arg8 harg8 arg9 harg9 h ⟨n, hn⟩ _ _) p hp
    · exact ih (Nat.le_of_succ_le hn) p hp

/-- The scratch after the loop is the tile of weights. -/
theorem pieces1_tile (c : Dev nD) (i : grid1.Coords) (arg2 : Memref sig .tc .vmem S1024x7168 .bf16) (harg2 : arg2.IsWhole) (arg3 : Memref sig .tc .vmem S28x64x512 .i8) (harg3 : arg3.IsWhole) (arg4 : Memref sig .tc .vmem S28x32x512 .i8) (harg4 : arg4.IsWhole) (arg5 : Memref sig .tc .vmem S28x12x512 .i8) (harg5 : arg5.IsWhole) (arg6 : Memref sig .tc .vmem S28x512 .f32) (harg6 : arg6.IsWhole) (arg7 : Memref sig .tc .vmem S1024x512 .bf16) (harg7 : arg7.IsWhole) (arg8 : Memref sig .tc .vmem S7168x512 .bf16) (harg8 : arg8.IsWhole) (arg9 : Memref sig .tc .vmem S16x2x512 .bf16) (harg9 : arg9.IsWhole) (h : k1_cond1 i = 1#1) :
    View.canon (pieces1 (F := Ideal) c i arg2 harg2 arg3 harg3 arg4 harg4 arg5 harg5 arg6 harg6 arg7 harg7 arg8 harg8 arg9 harg9 h x1 x2 x3 x4) = tileG x1 x2 x3 x4 :=
  funext fun y => View.canon_apply_of_pieces _ _ (pb_tile x1 x2 x3 x4 c i arg2 harg2 arg3 harg3 arg4 harg4 arg5 harg5 arg6 harg6 arg7 harg7 arg8 harg8 arg9 harg9 h _ _ _ le_rfl) y
    (cover1_8 c i arg2 harg2 arg3 harg3 arg4 harg4 arg5 harg5 arg6 harg6 arg7 harg7 arg8 harg8 arg9 harg9 h x1 x2 x3 x4 y)

/-- At any point, the scratch holds the tile of the column tile's first point. -/
theorem wtile_eq (V : (c : Dev nD) → (b : Ref sig .tc) → b.ty.shape.Idx → Elt Ideal b.ty.elt) (c : Dev nD) (t : Fin cfg1.N) :
    wtile V c t = tileG (iblk1 V c 1 (base1 t)) (iblk1 V c 2 (base1 t)) (iblk1 V c 3 (base1 t)) (iblk1 V c 4 (base1 t)) := by
  unfold wtile wfill
  exact pieces1_tile _ _ _ _ c _ _ _ _ _ _ _ _ _ _ _ _ _ _ _ _ _ _

end Cert.KernelIdeal.Whole
-- ==== Proof.MatmulValue.lean ====
/- The second pallas_call's result array, as a function of the arrays the call finds: each entry is the sum, over the
   7168 entries of the row, of the product with the output's weight. -/
module

public import proofs.«01_k».proof.Proof.WeightTile

@[expose] public section

set_option maxRecDepth 16384

noncomputable section

namespace Cert.KernelIdeal.Whole

open Cert.KernelIdeal.Gen Cert.KernelIdeal.Decode
open Idealize.ShloMosaic Idealize.ShloMosaic.TcCoe Idealize.ShloMosaic.Tactic
open Idealize.SL Idealize.SL.RA Idealize.SL.BI
open Idealize.ShloMosaic.Pipeline (Dat Cfg Window BodyObligation cellOf)
open Idealize.ShloMosaic.ValueKit

/-- Weight `r` of one output, from the output's bytes and block scales. -/
def wcol (q : Fin 28 → Fin 64 → BitVec 8) (h : Fin 28 → Fin 32 → BitVec 8) (s : Fin 28 → Fin 12 → BitVec 8) (d : Fin 28 → EReal) (r : Fin 7168) : EReal :=
  ((code (q ⟨r.val / 256, by omega⟩ ⟨32 * (r.val % 256 / 128) + r.val % 32, by omega⟩) (h ⟨r.val / 256, by omega⟩ ⟨r.val % 32, by omega⟩)
      (r.val % 128 / 32) (r.val % 256 / 32) : ℝ) : EReal)
    * (d ⟨r.val / 256, by omega⟩ * (((swd (s ⟨r.val / 256, by omega⟩) ⟨r.val % 256 / 16, by omega⟩).toInt : ℝ) : EReal))

/-- The tile's entry is the output's weight. -/
theorem tileAt_eq (x1 : Vec Ideal S28x64x512 .i8) (x2 : Vec Ideal S28x32x512 .i8) (x3 : Vec Ideal S28x12x512 .i8) (x4 : Vec Ideal S28x512 .f32) (r : Fin 7168) (l : Fin 512) :
    tileAt x1 x2 x3 x4 r l = wcol (fun n a => x1 (ix3 n a l)) (fun n a => x2 (ix3 n a l)) (fun n a => x3 (ix3 n a l)) (fun n => x4 (ix2 n l)) r := rfl

/-- The windows' index maps. -/
theorem idx1 : ∀ t : Fin cfg1.N, win1_0.index t = ![t.val % 12, 0] ∧ win1_1.index t = ![0, 0, t.val / 12] ∧ win1_2.index t = ![0, 0, t.val / 12]
    ∧ win1_3.index t = ![0, 0, t.val / 12] ∧ win1_4.index t = ![0, t.val / 12] ∧ win1_5.index t = ![t.val % 12, t.val / 12] :=
  (by decide +kernel : ∀ t : Fin grid1.N, _)

/-- The block product at an index. -/
theorem pay2_apply (x : Vec Ideal S1024x7168 .bf16) (w : Vec Ideal S7168x512 .bf16) (p : Fin 1024) (l : Fin 512) :
    k1_pay2 x w (ix2 p l) = ∑ r : Fin 7168, x (ix2 p r) * w (ix2 r l) := by
  pointwise [k1_pay2]

/-- The result array's entry, from the arrays the call finds. -/
def yOf (X : S12288x7168.Idx → EReal) (Q : S28x64x18432.Idx → BitVec 8) (H : S28x32x18432.Idx → BitVec 8) (S : S28x12x18432.Idx → BitVec 8)
    (D : S28x18432.Idx → EReal) (i : S12288x18432.Idx) : EReal :=
  ∑ r : Fin 7168, X (ix2 (i 0) r) * wcol (fun n a => Q (ix3 n a (i 1))) (fun n a => H (ix3 n a (i 1))) (fun n a => S (ix3 n a (i 1))) (fun n => D (ix2 n (i 1))) r

variable (V : (c : Dev nD) → (b : Ref sig .tc) → b.ty.shape.Idx → Elt Ideal b.ty.elt)

/-- The second call's result array after the run. -/
theorem arr1_5 (c : Dev nD) : (dat1 V c).arrAt 5 cfg1.N = yOf (V c main_v2_2) (V c main_v3) (V c main_v4) (V c main_v5) (V c main_v6) := by
  refine (dat1 V c).arrAt_eq_of_covers 5 _ (by decide +kernel) fun t _ y => ?_
  blk_simp
  rw [after1_5]
  unfold out1_5
  rw [wtile_eq]
  obtain ⟨e0, e1, e2, e3, e4, e5⟩ := idx1 t
  obtain ⟨-, b1, b2, b3, b4, -⟩ := idx1 (base1 t)
  have hb : (base1 t).val / 12 = t.val / 12 := by show 12 * (t.val / 12) / 12 = _; omega
  rw [hb] at b1 b2 b3 b4
  have hy : y = ix2 (y 0) (y 1) := funext fun a => by match a with | ⟨0, _⟩ => rfl | ⟨1, _⟩ => rfl
  refine (congrArg _ hy).trans ((pay2_apply _ _ (y 0) (y 1)).trans ?_)
  unfold yOf
  refine Finset.sum_congr rfl fun r _ => ?_
  have h0 : iblk1 V c 0 t (ix2 (y 0) r) = V c main_v2_2 (ix2 ((win1_5.blk t).view.emb y 0) r) := by blk_ext [iblk1, e0, e5]
  have h1 : ∀ n a, iblk1 V c 1 (base1 t) (ix3 n a (y 1)) = V c main_v3 (ix3 n a ((win1_5.blk t).view.emb y 1)) := fun n a => by blk_ext [iblk1, b1, e5]
  have h2 : ∀ n a, iblk1 V c 2 (base1 t) (ix3 n a (y 1)) = V c main_v4 (ix3 n a ((win1_5.blk t).view.emb y 1)) := fun n a => by blk_ext [iblk1, b2, e5]
  have h3 : ∀ n a, iblk1 V c 3 (base1 t) (ix3 n a (y 1)) = V c main_v5 (ix3 n a ((win1_5.blk t).view.emb y 1)) := fun n a => by blk_ext [iblk1, b3, e5]
  have h4 : ∀ n, iblk1 V c 4 (base1 t) (ix2 n (y 1)) = V c main_v6 (ix2 n ((win1_5.blk t).view.emb y 1)) := fun n => by blk_ext [iblk1, b4, e5]
  refine congr (congrArg _ h0) ?_
  refine (tileAt_eq _ _ _ _ r (y 1)).trans ?_
  simp only [h1, h2, h3, h4]

end Cert.KernelIdeal.Whole
-- ==== Proof.QuantTrip.lean ====
/- The quantiser of one row, as functions of the row and the gain, and what the first pallas_call stores: the codes, the
   products and the stage rows of each block of 256 columns, as functions of the index. -/
module

public import proofs.«01_k».proof.Proof.IdealQuant
public import Idealize.ShloMosaic.Lib.Pipeline.ReadBack
public import Idealize.ShloMosaic.Lib.Pipeline.ValueKit
public import Idealize.ShloMosaic.Lib.WholeRead

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open Idealize.ShloMosaic.Pipeline (Dat Cfg Window BodyObligation cellOf)
open Idealize.ShloMosaic.ValueKit

/-! ## The quantiser of a row -/

/-- One over the root of the row's mean square (plus the small constant). -/
def rinv (x : Fin 7168 → EReal) : EReal :=
  Ideal.rsqrt (Ideal.div (∑ k, x k * x k) (Ideal.ofBits FTy.f32 1172307968#32) + Ideal.ofBits FTy.f32 897988541#32)

/-- The normalised row. -/
def xnorm (x g : Fin 7168 → EReal) (k : Fin 7168) : EReal := x k * rinv x * g k

/-- The largest magnitude of block `n` of the normalised row. -/
def amax (x g : Fin 7168 → EReal) (n : Fin 28) : EReal :=
  Finset.fold max (Ideal.ofBits FTy.f32 4286578688#32)
    (fun l : Fin 256 => FloatOps.absf (F := Ideal) (φ := .f32) (xnorm x g ⟨256 * n.val + l.val, by omega⟩)) Finset.univ

/-- The scale of block `n`: the largest magnitude over 127, or one where that is zero. -/
def qscale (x g : Fin 7168 → EReal) (n : Fin 28) : EReal :=
  if amax x g n = 0 then 1 else Ideal.div (amax x g n) (Ideal.ofBits FTy.f32 1123942400#32)

/-- The rounded and clipped quotient. -/
def qval (x g : Fin 7168 → EReal) (k : Fin 7168) : EReal :=
  min (Ideal.ofBits FTy.f32 1123942400#32)
    (max (Ideal.ofBits FTy.f32 3271426048#32)
      (Ideal.liftRound Ideal.roundHalfEven (Ideal.div (xnorm x g k) (qscale x g ⟨k.val / 256, by omega⟩))))

/-- The code: the quotient as a signed byte. -/
def qcode (x g : Fin 7168 → EReal) (k : Fin 7168) : BitVec 8 := FloatOps.fptosi (F := Ideal) (φ := .f32) 8 (qval x g k)

/-- The product of the quotient and the scale. -/
def qprod (x g : Fin 7168 → EReal) (k : Fin 7168) : EReal := qval x g k * qscale x g ⟨k.val / 256, by omega⟩

/-! ## The stored values at an index -/

/-- The row's sum of squares over the 28 blocks, lane by lane, is the row's sum of squares. -/
theorem sum_blocks (f : Fin 7168 → EReal) :
    (∑ l : Fin 256, ∑ n : Fin 28, f ⟨256 * n.val + l.val, by omega⟩) = ∑ k, f k := by
  rw [Finset.sum_comm, ← Fintype.sum_prod_type']
  refine Fintype.sum_equiv (finProdFinEquiv (m := 28) (n := 256)) _ _ fun p => ?_
  congr 1
  exact Fin.ext (by simp only [finProdFinEquiv_apply_val]; omega)

/-- The value the body takes as the inverse root, from the 28 blocks of rows read. -/
abbrev kR (xs : Fin 28 → Vec Ideal S32x256 .bf16) : FVec Ideal S32x1 .f32 :=
  k0_pay9 (k0_pay8 (k0_pay6 (k0_pay5 (xs 0) (xs 1) (xs 2) (xs 3) (xs 4) (xs 5) (xs 6)) (xs 7) (xs 8) (xs 9) (xs 10) (xs 11) (xs 12) (xs 13) (xs 14))
    (k0_pay7 (xs 15)) (xs 16) (xs 17) (xs 18) (xs 19) (xs 20) (xs 21) (xs 22) (xs 23)) (xs 24) (xs 25) (xs 26) (xs 27)

/-- It is the inverse root of the row. -/
theorem kR_apply (xs : Fin 28 → Vec Ideal S32x256 .bf16) (row : Fin 32 → Fin 7168 → EReal)
    (hx : ∀ (n : Fin 28) (p : Fin 32) (l : Fin 256), xs n (ix2 p l) = row p ⟨256 * n.val + l.val, by omega⟩) (p : Fin 32) :
    kR xs (ix2 p 0) = rinv (row p) := by
  have e : (∑ l : Fin 256, ∑ n : Fin 28, xs n (ix2 p l) * xs n (ix2 p l)) = ∑ k, row p k * row p k := by
    rw [← sum_blocks]
    refine Finset.sum_congr rfl fun l _ => Finset.sum_congr rfl fun n _ => ?_
    rw [hx]
  unfold kR rinv
  rw [← e]
  pointwise [k0_pay9, k0_pay8, k0_pay7, k0_pay6, k0_pay5]
  refine congrArg (fun s => Ideal.rsqrt (Ideal.div s _ + _)) (Finset.sum_congr rfl fun l _ => ?_)
  simp only [Fin.sum_univ_castSucc, Fin.sum_univ_zero, zero_add]
  rfl

section Block

variable (R : FVec Ideal S32x1 .f32) (x : Vec Ideal S32x256 .bf16) (g : Vec Ideal S1x256 .f32) (row : Fin 32 → Fin 7168 → EReal) (gain : Fin 7168 → EReal)
  (n : Fin 28) (hR : ∀ p, R (ix2 p 0) = rinv (row p)) (hx : ∀ (p : Fin 32) (l : Fin 256), x (ix2 p l) = row p ⟨256 * n.val + l.val, by omega⟩)
  (hg : ∀ l : Fin 256, g (ix2 0 l) = gain ⟨256 * n.val + l.val, by omega⟩)

include hR hx hg in
/-- The normalised block. -/
theorem blk_xn (p : Fin 32) (l : Fin 256) : k0_pay45 R x g (ix2 p l) = xnorm (row p) gain ⟨256 * n.val + l.val, by omega⟩ := by
  have e : k0_pay45 R x g (ix2 p l) = x (ix2 p l) * R (ix2 p 0) * g (ix2 0 l) := by pointwise [k0_pay45]
  rw [e, hR, hx, hg]; rfl

include hR hx hg in
/-- The block's scale. -/
theorem blk_scale (p : Fin 32) : k0_pay46 R x g (ix2 p 0) = qscale (row p) gain n := by
  have e : k0_pay46 R x g (ix2 p 0) = if Finset.fold max (Ideal.ofBits FTy.f32 4286578688#32) (fun l : Fin 256 => FloatOps.absf (F := Ideal) (φ := .f32) (k0_pay45 R x g (ix2 p l))) Finset.univ = 0
      then 1 else Ideal.div (Finset.fold max (Ideal.ofBits FTy.f32 4286578688#32) (fun l : Fin 256 => FloatOps.absf (F := Ideal) (φ := .f32) (k0_pay45 R x g (ix2 p l))) Finset.univ) (Ideal.ofBits FTy.f32 1123942400#32) := by
    pointwise [k0_pay46, k0_pay45]
  rw [e]
  simp only [blk_xn R x g row gain n hR hx hg]
  rfl

include hR hx hg in
/-- The block's rounded and clipped quotients. -/
theorem blk_q (p : Fin 32) (l : Fin 256) : k0_pay47 R x g (ix2 p l) = qval (row p) gain ⟨256 * n.val + l.val, by omega⟩ := by
  have e : k0_pay47 R x g (ix2 p l) = min (Ideal.ofBits FTy.f32 1123942400#32)
      (max (Ideal.ofBits FTy.f32 3271426048#32)
        (Ideal.liftRound Ideal.roundHalfEven (Ideal.div (k0_pay45 R x g (ix2 p l)) (k0_pay46 R x g (ix2 p 0))))) := by pointwise [k0_pay47]
  have hn : (⟨(256 * n.val + l.val) / 256, by omega⟩ : Fin 28) = n := Fin.ext (by show (256 * n.val + l.val) / 256 = n.val; omega)
  rw [e, blk_xn R x g row gain n hR hx hg, blk_scale R x g row gain n hR hx hg]
  unfold qval
  rw [hn]

include hR hx hg in
/-- The block's codes. -/
theorem blk_code (p : Fin 32) (l : Fin 256) : k0_pay48 R x g (ix2 p l) = qcode (row p) gain ⟨256 * n.val + l.val, by omega⟩ := by
  have e : k0_pay48 R x g (ix2 p l) = FloatOps.fptosi (F := Ideal) (φ := .f32) 8 (k0_pay47 R x g (ix2 p l)) := by pointwise [k0_pay48]
  rw [e, blk_q R x g row gain n hR hx hg]; rfl

include hR hx hg in
/-- The block's products. -/
theorem blk_prod (p : Fin 32) (l : Fin 256) : k0_pay49 R x g (ix2 p l) = qprod (row p) gain ⟨256 * n.val + l.val, by omega⟩ := by
  have e : k0_pay49 R x g (ix2 p l) = k0_pay47 R x g (ix2 p l) * k0_pay46 R x g (ix2 p 0) := by pointwise [k0_pay49]
  have hn : (⟨(256 * n.val + l.val) / 256, by omega⟩ : Fin 28) = n := Fin.ext (by show (256 * n.val + l.val) / 256 = n.val; omega)
  rw [e, blk_q R x g row gain n hR hx hg, blk_scale R x g row gain n hR hx hg]
  unfold qprod
  rw [hn]

end Block

/-- Column `n` of the stage rows replaced by a block's scales. -/
abbrev sStep (n : BitVec 32) (prev : FVec Ideal S32x128 .f32) (sc : FVec Ideal S32x1 .f32) : FVec Ideal S32x128 .f32 :=
  select (cmpi .eq (iota Kind.tc S32x128 32 [1] iota_S32x128_d1_w32) (broadcast S32x128 n))
    (broadcastTo S32x128 (shapeCast S32x1 sc shapeCasts_S32x1_S32x1) broadcasts_S32x1_S32x128) prev

/-- The stage rows after the first `n` blocks: the scales in the first `n` columns, zero elsewhere. -/
def Staged (row : Fin 32 → Fin 7168 → EReal) (gain : Fin 7168 → EReal) (n : ℕ) (v : FVec Ideal S32x128 .f32) : Prop :=
  ∀ (p : Fin 32) (l : Fin 128), v (ix2 p l) = if h : l.val < 28 then (if l.val < n then qscale (row p) gain ⟨l.val, h⟩ else 0) else 0

theorem staged_zero (row : Fin 32 → Fin 7168 → EReal) (gain : Fin 7168 → EReal) : Staged row gain 0 k0_pay10 := by
  intro p l
  have e : k0_pay10 (F := Ideal) (ix2 p l) = 0 := by pointwise [k0_pay10]
  rw [e]; simp

theorem staged_step (row : Fin 32 → Fin 7168 → EReal) (gain : Fin 7168 → EReal) (n : ℕ) (hn : n < 28) {prev : FVec Ideal S32x128 .f32} (h : Staged row gain n prev)
    {sc : FVec Ideal S32x1 .f32} (hs : ∀ p : Fin 32, sc (ix2 p 0) = qscale (row p) gain ⟨n, hn⟩) : Staged row gain (n + 1) (sStep (BitVec.ofNat 32 n) prev sc) := by
  intro p l
  have e : sStep (BitVec.ofNat 32 n) prev sc (ix2 p l)
      = Scalar.select (IntOp.cmpi .eq (BitVec.ofNat 32 l.val) (BitVec.ofNat 32 n)) (sc (ix2 p 0)) (prev (ix2 p l)) := by pointwise [sStep]
  rw [e, hs, h]
  by_cases hl : l.val = n
  · have : IntOp.cmpi .eq (BitVec.ofNat 32 l.val) (BitVec.ofNat 32 n) = 1#1 := by rw [hl]; simp [IntOp.cmpi]
    rw [this, show ∀ a b : EReal, Scalar.select (1#1) a b = a from fun _ _ => rfl, dif_pos (by omega : l.val < 28), if_pos (by omega : l.val < n + 1)]
    simp only [hl]
  · have : IntOp.cmpi .eq (BitVec.ofNat 32 l.val) (BitVec.ofNat 32 n) = 0#1 := by
      have : BitVec.ofNat 32 l.val ≠ BitVec.ofNat 32 n := fun h => hl (by have := congrArg BitVec.toNat h; simp only [BitVec.toNat_ofNat] at this; omega)
      show BitVec.ofBool (BitVec.ofNat 32 l.val == BitVec.ofNat 32 n) = 0#1
      rw [beq_false_of_ne this]; rfl
    rw [this, show ∀ a b : EReal, Scalar.select (0#1) a b = b from fun _ _ => rfl]
    simp only [show (l.val < n + 1) = (l.val < n) from propext (by omega)]

/-- A cast to the same shape changes nothing. -/
theorem staged_cast (row : Fin 32 → Fin 7168 → EReal) (gain : Fin 7168 → EReal) (n : ℕ) {v : FVec Ideal S32x128 .f32} (h : Staged row gain n v) :
    Staged row gain n (shapeCast S32x128 v shapeCasts_S32x128_S32x128) := by
  intro p l
  rw [← h p l]
  pointwise []

/-! ## A trip's pieces -/

section Trip

variable (x0 : Vec Ideal S256x7168 .bf16) (x1 : Vec Ideal S1x7168 .f32)

/-- The gain as a function of the column. -/
abbrev gainOf : Fin 7168 → EReal := fun j => x1 (ix2 0 j)

/-- Row `r` of the block. -/
abbrev rowOf (r : Fin 256) : Fin 7168 → EReal := fun j => x0 (ix2 r j)

/-- The codes of the block. -/
def codesG (y : S256x7168.Idx) : Elt Ideal .i8 := qcode (rowOf x0 (y 0)) (gainOf x1) (y 1)

/-- The products of the block. -/
def prodG (y : S256x7168.Idx) : Elt Ideal .bf16 := qprod (rowOf x0 (y 0)) (gainOf x1) (y 1)

/-- The stage rows of the block: the scales in the first 28 columns. -/
def stageG (y : S256x128.Idx) : Elt Ideal .f32 :=
  if h : (y 1).val < 28 then qscale (rowOf x0 (y 0)) (gainOf x1) ⟨(y 1).val, h⟩ else 0

/-- A block of the gain lies in it. -/
theorem inbG (n : Fin 28) : ∀ a, (![0, 256 * n.val] : Fin 2 → ℕ) a + S1x256.size a ≤ S1x7168.size a
  | ⟨0, _⟩ => by show 0 + 1 ≤ 1; omega
  | ⟨1, _⟩ => by show 256 * n.val + 256 ≤ 7168; omega

/-- Block `n` of the gain, as the trip reads it. -/
abbrev gRead (m : Memref sig .tc .vmem S1x7168 .f32) (hm : m.IsWhole) (n : Fin 28) : Vec Ideal S1x256 .f32 :=
  View.readAt (Elt Ideal) m.view (Rect.unit (s := S1x7168) ![0, 256 * n.val] S1x256.size (inbG n)).toLoadRect (hm.unread x1)

theorem gRead_apply (m : Memref sig .tc .vmem S1x7168 .f32) (hm : m.IsWhole) (n : Fin 28) (l : Fin 256) :
    gRead x1 m hm n (ix2 0 l) = gainOf x1 ⟨256 * n.val + l.val, by omega⟩ := by
  unfold gRead
  rw [hm.readAt_unread]
  show x1 _ = x1 _
  congr 1
  funext b
  match b with
  | ⟨0, _⟩ => rfl
  | ⟨1, _⟩ => exact Fin.ext (by show 256 * n.val + 1 * l.val = 256 * n.val + l.val; omega)

variable (k : Fin k0_t1_loop.trips) (hk : k.val < 8)

/-- Row `p` of chunk `k`. -/
abbrev chunkRow (p : Fin 32) : Fin 7168 → EReal := rowOf x0 ⟨32 * k.val + p.val, by omega⟩

/-- The offsets of a trip's accesses of the rows, block by block. -/
abbrev offX (k : Fin k0_t1_loop.trips) (n : Fin 28) : Fin 2 → ℕ :=
  ![k0_off1 k, k0_off2 k, k0_off3 k, k0_off4 k, k0_off5 k, k0_off6 k, k0_off7 k, k0_off8 k, k0_off9 k, k0_off10 k, k0_off11 k, k0_off12 k, k0_off13 k, k0_off14 k, k0_off15 k, k0_off16 k, k0_off17 k, k0_off18 k, k0_off19 k, k0_off20 k, k0_off21 k, k0_off22 k, k0_off23 k, k0_off24 k, k0_off25 k, k0_off26 k, k0_off27 k, k0_off28 k] n

/-- In closed form. -/
theorem offX_eq (k : Fin k0_t1_loop.trips) (n : Fin 28) : offX k n = ![32 * k.val, 256 * n.val] := by
  revert k n; decide +kernel

/-- The chunk's block lies in the rows. -/
theorem inbX (k : Fin k0_t1_loop.trips) (n : Fin 28) : ∀ a, offX k n a + S32x256.size a ≤ S256x7168.size a := by
  revert k n; decide +kernel

/-- Chunk `k`, block `n` of the rows, as the trip reads it. -/
abbrev xRead (m : Memref sig .tc .vmem S256x7168 .bf16) (hm : m.IsWhole) (n : Fin 28) : Vec Ideal S32x256 .bf16 :=
  View.readAt (Elt Ideal) m.view (Rect.unit (s := S256x7168) (offX k n) S32x256.size (inbX k n)).toLoadRect (hm.unread x0)

theorem xRead_apply (m : Memref sig .tc .vmem S256x7168 .bf16) (hm : m.IsWhole) (n : Fin 28) (p : Fin 32) (l : Fin 256) :
    xRead x0 k m hm n (ix2 p l) = chunkRow x0 k hk p ⟨256 * n.val + l.val, by omega⟩ := by
  unfold xRead
  rw [hm.readAt_unread]
  show x0 _ = x0 _
  congr 1
  funext b
  have e := offX_eq k n
  match b with
  | ⟨0, _⟩ => exact Fin.ext (by show offX k n 0 + 1 * p.val = 32 * k.val + p.val; rw [e]; show 32 * k.val + 1 * p.val = _; omega)
  | ⟨1, _⟩ => exact Fin.ext (by show offX k n 1 + 1 * l.val = 256 * n.val + l.val; rw [e]; show 256 * n.val + 1 * l.val = _; omega)

/-- A chunk's block of codes lies in the block's codes. -/
theorem piece_code (n : Fin 28) {v : IVec S32x256 8}
    (hv : ∀ (p : Fin 32) (l : Fin 256), v (ix2 p l) = qcode (chunkRow x0 k hk p) (gainOf x1) ⟨256 * n.val + l.val, by omega⟩)
    (off : Fin 2 → ℕ) (inb : ∀ a, off a + S32x256.size a ≤ S256x7168.size a) (hoff : off = ![32 * k.val, 256 * n.val]) (y : S32x256.Idx) :
    v y = codesG x0 x1 ((Rect.unit (s := S256x7168) off S32x256.size inb).emb y) := by
  subst hoff
  have hy : y = ix2 (y 0) (y 1) := funext fun a => by match a with | ⟨0, _⟩ => rfl | ⟨1, _⟩ => rfl
  refine (congrArg v hy).trans ((hv (y 0) (y 1)).trans ?_)
  have h0 : (⟨32 * k.val + (y 0).val, by have := (y 0).isLt; change (y 0).val < 32 at this; omega⟩ : Fin 256) = (Rect.unit (s := S256x7168) ![32 * k.val, 256 * n.val] S32x256.size inb).emb y 0 :=
    Fin.ext (by show 32 * k.val + (y 0).val = 32 * k.val + 1 * (y 0).val; omega)
  have h1 : (⟨256 * n.val + (y 1).val, by have := (y 1).isLt; change (y 1).val < 256 at this; omega⟩ : Fin 7168) = (Rect.unit (s := S256x7168) ![32 * k.val, 256 * n.val] S32x256.size inb).emb y 1 :=
    Fin.ext (by show 256 * n.val + (y 1).val = 256 * n.val + 1 * (y 1).val; omega)
  unfold codesG
  rw [← h0, ← h1]

/-- A chunk's block of products lies in the block's products. -/
theorem piece_prod (n : Fin 28) {v : FVec Ideal S32x256 .bf16}
    (hv : ∀ (p : Fin 32) (l : Fin 256), v (ix2 p l) = qprod (chunkRow x0 k hk p) (gainOf x1) ⟨256 * n.val + l.val, by omega⟩)
    (off : Fin 2 → ℕ) (inb : ∀ a, off a + S32x256.size a ≤ S256x7168.size a) (hoff : off = ![32 * k.val, 256 * n.val]) (y : S32x256.Idx) :
    v y = prodG x0 x1 ((Rect.unit (s := S256x7168) off S32x256.size inb).emb y) := by
  subst hoff
  have hy : y = ix2 (y 0) (y 1) := funext fun a => by match a with | ⟨0, _⟩ => rfl | ⟨1, _⟩ => rfl
  refine (congrArg v hy).trans ((hv (y 0) (y 1)).trans ?_)
  have h0 : (⟨32 * k.val + (y 0).val, by have := (y 0).isLt; change (y 0).val < 32 at this; omega⟩ : Fin 256) = (Rect.unit (s := S256x7168) ![32 * k.val, 256 * n.val] S32x256.size inb).emb y 0 :=
    Fin.ext (by show 32 * k.val + (y 0).val = 32 * k.val + 1 * (y 0).val; omega)
  have h1 : (⟨256 * n.val + (y 1).val, by have := (y 1).isLt; change (y 1).val < 256 at this; omega⟩ : Fin 7168) = (Rect.unit (s := S256x7168) ![32 * k.val, 256 * n.val] S32x256.size inb).emb y 1 :=
    Fin.ext (by show 256 * n.val + (y 1).val = 256 * n.val + 1 * (y 1).val; omega)
  unfold prodG
  rw [← h0, ← h1]

/-- A chunk's stage rows lie in the block's stage rows. -/
theorem piece_stage {v : FVec Ideal S32x128 .f32} (hv : Staged (chunkRow x0 k hk) (gainOf x1) 28 v)
    (off : Fin 2 → ℕ) (inb : ∀ a, off a + S32x128.size a ≤ S256x128.size a) (hoff : off = ![32 * k.val, 0]) (y : S32x128.Idx) :
    v y = stageG x0 x1 ((Rect.unit (s := S256x128) off S32x128.size inb).emb y) := by
  subst hoff
  have hy : y = ix2 (y 0) (y 1) := funext fun a => by match a with | ⟨0, _⟩ => rfl | ⟨1, _⟩ => rfl
  refine (congrArg v hy).trans ((hv (y 0) (y 1)).trans ?_)
  have h0 : (⟨32 * k.val + (y 0).val, by have := (y 0).isLt; change (y 0).val < 32 at this; omega⟩ : Fin 256) = (Rect.unit (s := S256x128) ![32 * k.val, 0] S32x128.size inb).emb y 0 :=
    Fin.ext (by show 32 * k.val + (y 0).val = 32 * k.val + 1 * (y 0).val; omega)
  have h1 : y 1 = (Rect.unit (s := S256x128) ![32 * k.val, 0] S32x128.size inb).emb y 1 :=
    Fin.ext (by show (y 1).val = 0 + 1 * (y 1).val; omega)
  unfold stageG
  rw [← h0, ← h1]
  by_cases h : (y 1).val < 28
  · rw [dif_pos h, dif_pos h, if_pos h]
  · rw [dif_neg h, dif_neg h]

end Trip

set_option maxHeartbeats 2000000 in
/-- A trip's pieces are blocks of the codes, of the products and of the stage rows. -/
theorem trip_quant (x0 : Vec Ideal S256x7168 .bf16) (x1 : Vec Ideal S1x7168 .f32) (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S256x7168 .i8) (harg3 : arg3.IsWhole) (arg4 : Memref sig .tc .vmem S1x28x256 .f32) (harg4 : arg4.IsWhole) (arg5 : Memref sig .tc .vmem S256x7168 .bf16) (harg5 : arg5.IsWhole) (arg6 : Memref sig .tc .vmem S256x128 .f32) (harg6 : arg6.IsWhole) (k : Fin k0_t1_loop.trips) :
    View.PiecesOf (codesG x0 x1) (tripL_k0_t1 (F := Ideal) Variants.none c none i arg1 harg1 arg2 harg2 arg3 harg3 arg4 harg4 arg5 harg5 arg6 harg6 (harg1.unread x0) (harg2.unread x1) k).1
    ∧ View.PiecesOf (prodG x0 x1) (tripL_k0_t1 (F := Ideal) Variants.none c none i arg1 harg1 arg2 harg2 arg3 harg3 arg4 harg4 arg5 harg5 arg6 harg6 (harg1.unread x0) (harg2.unread x1) k).2.1
    ∧ View.PiecesOf (stageG x0 x1) (tripL_k0_t1 (F := Ideal) Variants.none c none i arg1 harg1 arg2 harg2 arg3 harg3 arg4 harg4 arg5 harg5 arg6 harg6 (harg1.unread x0) (harg2.unread x1) k).2.2 := by
  have hk : k.val < 8 := Nat.lt_of_lt_of_le k.isLt k0_t1_abs.2.1
  unfold tripL_k0_t1 trip_k0_t1
  dsimp only
  sl_unfold_run_names
  have hR : ∀ p, kR (xRead x0 k arg1 harg1) (ix2 p 0) = rinv (chunkRow x0 k hk p) := kR_apply _ _ (xRead_apply x0 k hk arg1 harg1)
  have hC := fun n : Fin 28 => blk_code _ _ _ _ (gainOf x1) n hR (xRead_apply x0 k hk arg1 harg1 n) (gRead_apply x1 arg2 harg2 n)
  have hP := fun n : Fin 28 => blk_prod _ _ _ _ (gainOf x1) n hR (xRead_apply x0 k hk arg1 harg1 n) (gRead_apply x1 arg2 harg2 n)
  have hS := fun n : Fin 28 => blk_scale _ _ _ _ (gainOf x1) n hR (xRead_apply x0 k hk arg1 harg1 n) (gRead_apply x1 arg2 harg2 n)
  have qC := fun n : Fin 28 => piece_code x0 x1 k hk n (hC n) (offX k n) (inbX k n) (offX_eq k n)
  have qP := fun n : Fin 28 => piece_prod x0 x1 k hk n (hP n) (offX k n) (inbX k n) (offX_eq k n)
  refine ⟨?_, ?_, ?_⟩
  · clear hR hS hP qP
    exact ⟨qC 27, qC 26, qC 25, qC 24, qC 23, qC 22, qC 21, qC 20, qC 19, qC 18, qC 17, qC 16, qC 15, qC 14, qC 13, qC 12, qC 11, qC 10, qC 9, qC 8, qC 7, qC 6, qC 5, qC 4, qC 3, qC 2, qC 1, qC 0, trivial⟩
  · clear hR hS hC qC
    exact ⟨qP 27, qP 26, qP 25, qP 24, qP 23, qP 22, qP 21, qP 20, qP 19, qP 18, qP 17, qP 16, qP 15, qP 14, qP 13, qP 12, qP 11, qP 10, qP 9, qP 8, qP 7, qP 6, qP 5, qP 4, qP 3, qP 2, qP 1, qP 0, trivial⟩
  · refine ⟨?_, trivial⟩
    refine piece_stage x0 x1 k hk ?_ (k0_off29 k) (k0_off29_inb k) (k0_off29_eq k)
    have s0 := staged_zero (chunkRow x0 k hk) (gainOf x1)
    have s1 := staged_step _ _ 0 (by decide) s0 (hS 0)
    have s2 := staged_step _ _ 1 (by decide) s1 (hS 1)
    have s3 := staged_step _ _ 2 (by decide) s2 (hS 2)
    have s4 := staged_step _ _ 3 (by decide) s3 (hS 3)
    have s5 := staged_step _ _ 4 (by decide) s4 (hS 4)
    have s6 := staged_step _ _ 5 (by decide) s5 (hS 5)
    have s7 := staged_step _ _ 6 (by decide) s6 (hS 6)
    have s8 := staged_step _ _ 7 (by decide) s7 (hS 7)
    have s9 := staged_step _ _ 8 (by decide) s8 (hS 8)
    have s10 := staged_step _ _ 9 (by decide) s9 (hS 9)
    have s11 := staged_step _ _ 10 (by decide) s10 (hS 10)
    have s12 := staged_step _ _ 11 (by decide) s11 (hS 11)
    have s13 := staged_step _ _ 12 (by decide) s12 (hS 12)
    have s14 := staged_step _ _ 13 (by decide) s13 (hS 13)
    have s15 := staged_step _ _ 14 (by decide) s14 (hS 14)
    have s16 := staged_step _ _ 15 (by decide) s15 (hS 15)
    have s17 := staged_step _ _ 16 (by decide) s16 (hS 16)
    have s18 := staged_step _ _ 17 (by decide) s17 (hS 17)
    have s19 := staged_step _ _ 18 (by decide) s18 (hS 18)
    have s20 := staged_step _ _ 19 (by decide) s19 (hS 19)
    have s21 := staged_step _ _ 20 (by decide) s20 (hS 20)
    have s22 := staged_step _ _ 21 (by decide) s21 (hS 21)
    have s23 := staged_step _ _ 22 (by decide) s22 (hS 22)
    have s24 := staged_step _ _ 23 (by decide) s23 (hS 23)
    have s25 := staged_step _ _ 24 (by decide) s24 (hS 24)
    have s26 := staged_step _ _ 25 (by decide) s25 (hS 25)
    have s27 := staged_step _ _ 26 (by decide) s26 (hS 26)
    have s28 := staged_step _ _ 27 (by decide) s27 (hS 27)
    clear hR hC hP qC qP hS
    exact staged_cast _ _ _ s28
end Cert.KernelIdeal.Whole
-- ==== Proof.QuantValue.lean ====
/- The first pallas_call's result arrays, as functions of the arrays the call finds: the codes and the products of every
   row, and the scales of every row and block. -/
module

public import proofs.«01_k».proof.Proof.QuantTrip
public import Idealize.ShloMosaic.Lib.WholeRead

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open Idealize.ShloMosaic.Pipeline (Dat Cfg Window BodyObligation cellOf)
open Idealize.ShloMosaic.ValueKit

section Pieces

variable (x0 : Vec Ideal S256x7168 .bf16) (x1 : Vec Ideal S1x7168 .f32) (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S256x7168 .i8) (harg3 : arg3.IsWhole) (arg4 : Memref sig .tc .vmem S1x28x256 .f32) (harg4 : arg4.IsWhole) (arg5 : Memref sig .tc .vmem S256x7168 .bf16) (harg5 : arg5.IsWhole) (arg6 : Memref sig .tc .vmem S256x128 .f32) (harg6 : arg6.IsWhole)

/-- Every piece of the trips before `n` is a block of the codes, of the products, of the stage rows. -/
theorem pb_quant : ∀ n : ℕ, n ≤ k0_t1_loop.trips →
    (∀ p ∈ (pb_k0_t1 (F := Ideal) Variants.none c none i arg1 harg1 arg2 harg2 arg3 harg3 arg4 harg4 arg5 harg5 arg6 harg6 (harg1.unread x0) (harg2.unread x1) n).1, ∀ x : p.1.shape.Idx, p.2 x = codesG x0 x1 (p.1.emb x))
    ∧ (∀ p ∈ (pb_k0_t1 (F := Ideal) Variants.none c none i arg1 harg1 arg2 harg2 arg3 harg3 arg4 harg4 arg5 harg5 arg6 harg6 (harg1.unread x0) (harg2.unread x1) n).2.1, ∀ x : p.1.shape.Idx, p.2 x = prodG x0 x1 (p.1.emb x))
    ∧ (∀ p ∈ (pb_k0_t1 (F := Ideal) Variants.none c none i arg1 harg1 arg2 harg2 arg3 harg3 arg4 harg4 arg5 harg5 arg6 harg6 (harg1.unread x0) (harg2.unread x1) n).2.2, ∀ x : p.1.shape.Idx, p.2 x = stageG x0 x1 (p.1.emb x)) := by
  intro n
  induction n with
  | zero =>
    intro _
    rw [pb_k0_t1.eq_1]
    exact ⟨fun p hp => absurd hp (List.not_mem_nil), fun p hp => absurd hp (List.not_mem_nil), fun p hp => absurd hp (List.not_mem_nil)⟩
  | succ n ih =>
    intro hn
    rw [pb_k0_t1_succ (F := Ideal) Variants.none c none i arg1 harg1 arg2 harg2 arg3 harg3 arg4 harg4 arg5 harg5 arg6 harg6 (harg1.unread x0) (harg2.unread x1) ⟨n, hn⟩]
    have ih := ih (Nat.le_of_succ_le hn)
    have tr := trip_quant x0 x1 c i arg1 harg1 arg2 harg2 arg3 harg3 arg4 harg4 arg5 harg5 arg6 harg6 ⟨n, hn⟩
    refine ⟨fun p hp => ?_, fun p hp => ?_, fun p hp => ?_⟩
    · rcases List.mem_append.1 hp with hp | hp
      · exact View.PiecesOf.mem tr.1 p hp
      · exact ih.1 p hp
    · rcases List.mem_append.1 hp with hp | hp
      · exact View.PiecesOf.mem tr.2.1 p hp
      · exact ih.2.1 p hp
    · rcases List.mem_append.1 hp with hp | hp
      · exact View.PiecesOf.mem tr.2.2 p hp
      · exact ih.2.2 p hp

/-- The codes' buffer after the loop. -/
theorem pieces0_codes : View.canon (pieces0 (F := Ideal) c i arg1 harg1 arg2 harg2 arg3 harg3 arg4 harg4 arg5 harg5 arg6 harg6 x0 x1).1 = codesG x0 x1 :=
  funext fun y => View.canon_apply_of_pieces _ _ (pb_quant x0 x1 c i arg1 harg1 arg2 harg2 arg3 harg3 arg4 harg4 arg5 harg5 arg6 harg6 _ le_rfl).1 y (cover0_2 c i arg1 harg1 arg2 harg2 arg3 harg3 arg4 harg4 arg5 harg5 arg6 harg6 x0 x1 y)

/-- The products' buffer after the loop. -/
theorem pieces0_prod : View.canon (pieces0 (F := Ideal) c i arg1 harg1 arg2 harg2 arg3 harg3 arg4 harg4 arg5 harg5 arg6 harg6 x0 x1).2.1 = prodG x0 x1 :=
  funext fun y => View.canon_apply_of_pieces _ _ (pb_quant x0 x1 c i arg1 harg1 arg2 harg2 arg3 harg3 arg4 harg4 arg5 harg5 arg6 harg6 _ le_rfl).2.1 y (cover0_4 c i arg1 harg1 arg2 harg2 arg3 harg3 arg4 harg4 arg5 harg5 arg6 harg6 x0 x1 y)

/-- The stage rows after the loop. -/
theorem pieces0_stage : View.canon (pieces0 (F := Ideal) c i arg1 harg1 arg2 harg2 arg3 harg3 arg4 harg4 arg5 harg5 arg6 harg6 x0 x1).2.2 = stageG x0 x1 :=
  funext fun y => View.canon_apply_of_pieces _ _ (pb_quant x0 x1 c i arg1 harg1 arg2 harg2 arg3 harg3 arg4 harg4 arg5 harg5 arg6 harg6 _ le_rfl).2.2 y (cover0_6 c i arg1 harg1 arg2 harg2 arg3 harg3 arg4 harg4 arg5 harg5 arg6 harg6 x0 x1 y)

end Pieces

/-- The transposed stage rows at an index. -/
theorem pay4_quant (v : Vec Ideal S256x128 .f32) (n : Fin 28) (l : Fin 256) : k0_pay4 v (ix3 0 n l) = v (ix2 l ⟨n.val, by omega⟩) := by
  pointwise [k0_pay4]

/-- The windows' index maps. -/
theorem idx0 : ∀ t : Fin cfg0.N, win0_0.index t = ![t.val, 0] ∧ win0_1.index t = ![0, 0] ∧ win0_2.index t = ![t.val, 0]
    ∧ win0_3.index t = ![t.val / 16, 0, t.val % 16] ∧ win0_4.index t = ![t.val, 0] :=
  (by decide +kernel : ∀ t : Fin grid0.N, _)

/-- The codes of every row. -/
def codesOf (X : S12288x7168.Idx → EReal) (G : S1x7168.Idx → EReal) (i : S12288x7168.Idx) : BitVec 8 :=
  qcode (fun j => X (ix2 (i 0) j)) (fun j => G (ix2 0 j)) (i 1)

/-- The products of every row. -/
def prodOf (X : S12288x7168.Idx → EReal) (G : S1x7168.Idx → EReal) (i : S12288x7168.Idx) : EReal :=
  qprod (fun j => X (ix2 (i 0) j)) (fun j => G (ix2 0 j)) (i 1)

/-- The scales of every row and block. -/
def scaleOf (X : S12288x7168.Idx → EReal) (G : S1x7168.Idx → EReal) (i : S3x28x4096.Idx) : EReal :=
  qscale (fun j => X (ix2 ⟨4096 * (i 0).val + (i 2).val, by have h0 : (i 0).val < 3 := (i 0).isLt; have h2 : (i 2).val < 4096 := (i 2).isLt; omega⟩ j)) (fun j => G (ix2 0 j)) (i 1)

variable (V : (c : Dev nD) → (b : Ref sig .tc) → b.ty.shape.Idx → Elt Ideal b.ty.elt)

/-- Row `p` of a point's block is a row of the array. -/
theorem row0 (c : Dev nD) (t : Fin cfg0.N) (p : Fin 256) (r : Fin 12288) (hr : r.val = 256 * t.val + p.val) :
    rowOf (iblk0 V c 0 t) p = fun j => V c main_v0 (ix2 r j) := by
  funext j
  have e := (idx0 t).1
  show iblk0 V c 0 t (ix2 p j) = _
  blk_ext [iblk0, e]

/-- The gain is the same at every point. -/
theorem gain0 (c : Dev nD) (t : Fin cfg0.N) : gainOf (iblk0 V c 1 t) = fun j => V c main_v1 (ix2 0 j) := by
  funext j
  have e := (idx0 t).2.1
  show iblk0 V c 1 t (ix2 0 j) = _
  blk_ext [iblk0, e]

/-- The codes' array after the run. -/
theorem arr0_2 (c : Dev nD) : (dat0 V c).arrAt 2 cfg0.N = codesOf (V c main_v0) (V c main_v1) := by
  refine (dat0 V c).arrAt_eq_of_covers 2 _ (by decide +kernel) fun t _ y => ?_
  blk_simp
  rw [after0_2]
  obtain ⟨-, -, e2, -, -⟩ := idx0 t
  unfold out0_2
  rw [pieces0_codes]
  have h0 : ((win0_2.blk t).view.emb y 0 : ℕ) = 256 * t.val + (y 0).val := by blk_simp [e2]; omega
  have h1 : y 1 = (win0_2.blk t).view.emb y 1 := Fin.ext (by blk_simp [e2])
  exact congr (congr (congrArg qcode (row0 V c t (y 0) _ h0)) (gain0 V c t)) h1

/-- The products' array after the run. -/
theorem arr0_4 (c : Dev nD) : (dat0 V c).arrAt 4 cfg0.N = prodOf (V c main_v0) (V c main_v1) := by
  refine (dat0 V c).arrAt_eq_of_covers 4 _ (by decide +kernel) fun t _ y => ?_
  blk_simp
  rw [after0_4]
  obtain ⟨-, -, -, -, e4⟩ := idx0 t
  unfold out0_4
  rw [pieces0_prod]
  have h0 : ((win0_4.blk t).view.emb y 0 : ℕ) = 256 * t.val + (y 0).val := by blk_simp [e4]; omega
  have h1 : y 1 = (win0_4.blk t).view.emb y 1 := Fin.ext (by blk_simp [e4])
  exact congr (congr (congrArg qprod (row0 V c t (y 0) _ h0)) (gain0 V c t)) h1

/-- The scales' array after the run. -/
theorem arr0_3 (c : Dev nD) : (dat0 V c).arrAt 3 cfg0.N = scaleOf (V c main_v0) (V c main_v1) := by
  refine (dat0 V c).arrAt_eq_of_covers 3 _ (by decide +kernel) fun t _ y => ?_
  blk_simp
  rw [after0_3]
  obtain ⟨-, -, -, e3, -⟩ := idx0 t
  unfold out0_3
  rw [pieces0_stage]
  have hy : y = ix3 0 (y 1) (y 2) := funext fun a => by
    match a with | ⟨0, _⟩ => exact Fin.ext (by have : (y 0).val < 1 := (y 0).isLt; show (y 0).val = 0; omega) | ⟨1, _⟩ => rfl | ⟨2, _⟩ => rfl
  have hl : (y 1).val < 28 := (y 1).isLt
  refine (congrArg _ hy).trans ((pay4_quant _ (y 1) (y 2)).trans ?_)
  have z0 : (y 0).val = 0 := by have : (y 0).val < 1 := (y 0).isLt; omega
  have l2 : (y 2).val < 256 := (y 2).isLt
  have h0 : ((win0_3.blk t).view.emb y 0 : ℕ) = t.val / 16 := by blk_simp [e3]
  have h1 : (⟨(y 1).val, hl⟩ : Fin 28) = (win0_3.blk t).view.emb y 1 := Fin.ext (by blk_simp [e3])
  have h2 : ((win0_3.blk t).view.emb y 2 : ℕ) = t.val % 16 * 256 + (y 2).val := by blk_simp [e3]
  refine (dif_pos hl).trans ?_
  exact congr (congr (congrArg qscale (row0 V c t (y 2) _ (by show 4096 * _ + _ = _; rw [h0, h2]; omega))) (gain0 V c t)) h1

end Cert.KernelIdeal.Whole
-- ==== Proof.KernelValue.lean ====
/- The kernel's three results at an index, from the arrays at the launch: the host operations before, between and after the
   two calls read through. -/
module

public import proofs.«01_k».proof.Proof.IdealRun
public import proofs.«01_k».proof.Proof.MatmulValue
public import proofs.«01_k».proof.Proof.QuantValue
public import Idealize.ShloMosaic.Lib.Pipeline.ValueKit
public import Idealize.ShloMosaic.Lib.StableHlo.Run

@[expose] public section

set_option maxRecDepth 16384

noncomputable section

namespace Cert.KernelIdeal.Whole

open Cert.KernelIdeal.Gen
open Idealize.ShloMosaic Idealize.ShloMosaic.TcCoe Idealize.ShloMosaic.Tactic Idealize.ShloMosaic.StableHlo
open Idealize.ShloMosaic.ValueKit

variable (m : (ℓ : Loc nD τ sig) → Buf (Elt Ideal) ℓ) (c : Dev nD)

/-- A token's row at the launch. -/
def rowM (b : Fin 3) (s : Fin 4096) (j : Fin 7168) : EReal := m ((c.tc : Thread nD τ).loc main_arg0) (ix3 b s j)

/-- The gain at the launch. -/
def gainM (j : Fin 7168) : EReal := m ((c.tc : Thread nD τ).loc main_arg1) (ix1 j)

/-- The rows the first call reads. -/
theorem E1_v0 (b : Fin 3) (s : Fin 4096) (j : Fin 7168) (r : Fin 12288) (hr : r.val = 4096 * b.val + s.val) :
    E1 m c main_v0 (ix2 r j) = rowM m c b s j := by
  have e : E1 m c main_v0 = shapeCast S12288x7168 (B0 m c (Proc.devRef .tc main_arg0)) shapeCasts_S3x4096x7168_S12288x7168 := by
    show B1 m c (Proc.devRef .tc main_v0) = _
    unfold B1
    after_results
    rfl
  have e2 : ∀ X : S3x4096x7168.Idx → EReal, shapeCast S12288x7168 X shapeCasts_S3x4096x7168_S12288x7168 (ix2 r j) = X (ix3 ⟨r.val / 4096, by omega⟩ ⟨r.val % 4096, by omega⟩ j) := by
    intro X; pointwise []
  refine (congrFun e _).trans ((e2 _).trans ?_)
  have h1 : (⟨r.val / 4096, by omega⟩ : Fin 3) = b := Fin.ext (by show r.val / 4096 = b.val; omega)
  have h2 : (⟨r.val % 4096, by omega⟩ : Fin 4096) = s := Fin.ext (by show r.val % 4096 = s.val; omega)
  rw [h1, h2]
  rfl

/-- The gain the first call reads. -/
theorem E1_v1 (j : Fin 7168) : E1 m c main_v1 (ix2 0 j) = gainM m c j := by
  have e : E1 m c main_v1 = shapeCast S1x7168 (B0 m c (Proc.devRef .tc main_arg1)) shapeCasts_S7168_S1x7168 := by
    show B1 m c (Proc.devRef .tc main_v1) = _
    unfold B1
    after_results
    rfl
  have e2 : ∀ X : S7168.Idx → EReal, shapeCast S1x7168 X shapeCasts_S7168_S1x7168 (ix2 0 j) = X (ix1 j) := by
    intro X; pointwise []
  exact (congrFun e _).trans (e2 _)

theorem rowE (b : Fin 3) (s : Fin 4096) (r : Fin 12288) (hr : r.val = 4096 * b.val + s.val) : (fun j => E1 m c main_v0 (ix2 r j)) = rowM m c b s :=
  funext fun j => E1_v0 m c b s j r hr
theorem gainE : (fun j => E1 m c main_v1 (ix2 0 j)) = gainM m c := funext fun j => E1_v1 m c j

/-- The second result: the codes. -/
theorem B5_v9 (b : Fin 3) (s : Fin 4096) (r : Fin 7168) :
    B5 m c (Proc.devRef .tc main_v9) (ix3 b s r) = qcode (rowM m c b s) (gainM m c) r := by
  have e : B5 m c (Proc.devRef .tc main_v9) = shapeCast S3x4096x7168 (B4 m c (Proc.devRef .tc main_v2_0)) shapeCasts_S12288x7168_S3x4096x7168 := by
    unfold B5
    after_results
    rfl
  have e2 : ∀ X : S12288x7168.Idx → BitVec 8, shapeCast S3x4096x7168 X shapeCasts_S12288x7168_S3x4096x7168 (ix3 b s r) = X (ix2 ⟨b.val * 4096 + s.val, by omega⟩ r) := by
    intro X; pointwise []
  have e3 : B4 m c (Proc.devRef .tc main_v2_0) = codesOf (E1 m c main_v0) (E1 m c main_v1) :=
    (B4_of m c main_v2_0 (by decide)).trans ((B3_of m c main_v2_0 (by decide)).trans ((B2_arr m c 2).trans (arr0_2 (E1 m) c)))
  refine (congrFun e _).trans ((e2 _).trans ((congrFun e3 _).trans ?_))
  exact congr (congr (congrArg qcode (rowE m c b s _ (by show b.val * 4096 + s.val = _; omega))) (gainE m c)) rfl

/-- The third result: the scales. -/
theorem B5_v10 (b : Fin 3) (s : Fin 4096) (n : Fin 28) :
    B5 m c (Proc.devRef .tc main_v10) (ix3 b s n) = qscale (rowM m c b s) (gainM m c) n := by
  have e : B5 m c (Proc.devRef .tc main_v10) = transpose S3x4096x28 [0, 2, 1] (B4 m c (Proc.devRef .tc main_v2_1)) transposes_S3x28x4096_S3x4096x28_0_2_1 := by
    unfold B5
    after_results
  have e2 : ∀ X : S3x28x4096.Idx → EReal, transpose S3x4096x28 [0, 2, 1] X transposes_S3x28x4096_S3x4096x28_0_2_1 (ix3 b s n) = X (ix3 b n s) := by
    intro X; pointwise []
  have e3 : B4 m c (Proc.devRef .tc main_v2_1) = scaleOf (E1 m c main_v0) (E1 m c main_v1) :=
    (B4_of m c main_v2_1 (by decide)).trans ((B3_of m c main_v2_1 (by decide)).trans ((B2_arr m c 3).trans (arr0_3 (E1 m) c)))
  refine (congrFun e _).trans ((e2 _).trans ((congrFun e3 _).trans ?_))
  exact congr (congr (congrArg qscale (rowE m c b s _ rfl)) (gainE m c)) rfl

/-- An argument array is the same at the first call's end. -/
theorem B2_args : ∀ a ∈ argRefs, B2 m c (Proc.devRef .tc a) = m ((c : Thread nD τ).loc a) := fun a ha =>
  have n0 : a ∉ hostOps0_W := (by decide : ∀ a ∈ argRefs, a ∉ hostOps0_W) a ha
  (B2_of m c a (argsIn0 a ha)).trans (B1_of m c a n0)

/-- The low bits the second call reads, -/
theorem E3_v3 (n : Fin 28) (a : Fin 64) (o : Fin 18432) : E3 m c main_v3 (ix3 n a o) = m ((c.tc : Thread nD τ).loc main_arg3) (ix3 o n a) := by
  have e : E3 m c main_v3 = transpose S28x64x18432 [1, 2, 0] (B2 m c (Proc.devRef .tc main_arg3)) transposes_S18432x28x64_S28x64x18432_1_2_0 := by
    show B3 m c (Proc.devRef .tc main_v3) = _
    unfold B3
    after_results
  have e2 : ∀ X : S18432x28x64.Idx → BitVec 8, transpose S28x64x18432 [1, 2, 0] X transposes_S18432x28x64_S28x64x18432_1_2_0 (ix3 n a o) = X (ix3 o n a) := by
    intro X; pointwise []
  exact (congrFun e _).trans ((e2 _).trans (congrFun (B2_args m c main_arg3 (by decide)) _))

/-- the high bits, -/
theorem E3_v4 (n : Fin 28) (a : Fin 32) (o : Fin 18432) : E3 m c main_v4 (ix3 n a o) = m ((c.tc : Thread nD τ).loc main_arg2) (ix3 o n a) := by
  have e : E3 m c main_v4 = transpose S28x32x18432 [1, 2, 0] (B2 m c (Proc.devRef .tc main_arg2)) transposes_S18432x28x32_S28x32x18432_1_2_0 := by
    show B3 m c (Proc.devRef .tc main_v4) = _
    unfold B3
    after_results
  have e2 : ∀ X : S18432x28x32.Idx → BitVec 8, transpose S28x32x18432 [1, 2, 0] X transposes_S18432x28x32_S28x32x18432_1_2_0 (ix3 n a o) = X (ix3 o n a) := by
    intro X; pointwise []
  exact (congrFun e _).trans ((e2 _).trans (congrFun (B2_args m c main_arg2 (by decide)) _))

/-- the group scales, -/
theorem E3_v5 (n : Fin 28) (a : Fin 12) (o : Fin 18432) : E3 m c main_v5 (ix3 n a o) = m ((c.tc : Thread nD τ).loc main_arg4) (ix3 o n a) := by
  have e : E3 m c main_v5 = transpose S28x12x18432 [1, 2, 0] (B2 m c (Proc.devRef .tc main_arg4)) transposes_S18432x28x12_S28x12x18432_1_2_0 := by
    show B3 m c (Proc.devRef .tc main_v5) = _
    unfold B3
    after_results
  have e2 : ∀ X : S18432x28x12.Idx → BitVec 8, transpose S28x12x18432 [1, 2, 0] X transposes_S18432x28x12_S28x12x18432_1_2_0 (ix3 n a o) = X (ix3 o n a) := by
    intro X; pointwise []
  exact (congrFun e _).trans ((e2 _).trans (congrFun (B2_args m c main_arg4 (by decide)) _))

/-- and the block scales. -/
theorem E3_v6 (n : Fin 28) (o : Fin 18432) : E3 m c main_v6 (ix2 n o) = m ((c.tc : Thread nD τ).loc main_arg5) (ix2 o n) := by
  have e : E3 m c main_v6 = transpose S28x18432 [1, 0] (B2 m c (Proc.devRef .tc main_arg5)) transposes_S18432x28_S28x18432_1_0 := by
    show B3 m c (Proc.devRef .tc main_v6) = _
    unfold B3
    after_results
  have e2 : ∀ X : S18432x28.Idx → EReal, transpose S28x18432 [1, 0] X transposes_S18432x28_S28x18432_1_0 (ix2 n o) = X (ix2 o n) := by
    intro X; pointwise []
  exact (congrFun e _).trans ((e2 _).trans (congrFun (B2_args m c main_arg5 (by decide)) _))

/-- The first result: each entry is the sum over the row's columns of the product with the output's weight. -/
theorem B5_v8 (b : Fin 3) (s : Fin 4096) (o : Fin 18432) :
    B5 m c (Proc.devRef .tc main_v8) (ix3 b s o) = ∑ r : Fin 7168, qprod (rowM m c b s) (gainM m c) r
      * wcol (fun n a => m ((c.tc : Thread nD τ).loc main_arg3) (ix3 o n a)) (fun n a => m ((c.tc : Thread nD τ).loc main_arg2) (ix3 o n a))
          (fun n a => m ((c.tc : Thread nD τ).loc main_arg4) (ix3 o n a)) (fun n => m ((c.tc : Thread nD τ).loc main_arg5) (ix2 o n)) r := by
  have e : B5 m c (Proc.devRef .tc main_v8) = shapeCast S3x4096x18432 (B4 m c (Proc.devRef .tc main_v7)) shapeCasts_S12288x18432_S3x4096x18432 := by
    unfold B5
    after_results
    rfl
  have e2 : ∀ X : S12288x18432.Idx → EReal, shapeCast S3x4096x18432 X shapeCasts_S12288x18432_S3x4096x18432 (ix3 b s o) = X (ix2 ⟨b.val * 4096 + s.val, by omega⟩ o) := by
    intro X; pointwise []
  have e3 : B4 m c (Proc.devRef .tc main_v7) = yOf (E3 m c main_v2_2) (E3 m c main_v3) (E3 m c main_v4) (E3 m c main_v5) (E3 m c main_v6) :=
    (B4_arr m c 5).trans (arr1_5 (E3 m) c)
  have e4 : E3 m c main_v2_2 = prodOf (E1 m c main_v0) (E1 m c main_v1) :=
    (B3_of m c main_v2_2 (by decide)).trans ((B2_arr m c 4).trans (arr0_4 (E1 m) c))
  have e5 : yOf (E3 m c main_v2_2) (E3 m c main_v3) (E3 m c main_v4) (E3 m c main_v5) (E3 m c main_v6) (ix2 ⟨b.val * 4096 + s.val, by omega⟩ o)
      = ∑ r : Fin 7168, qprod (rowM m c b s) (gainM m c) r
        * wcol (fun n a => m ((c.tc : Thread nD τ).loc main_arg3) (ix3 o n a)) (fun n a => m ((c.tc : Thread nD τ).loc main_arg2) (ix3 o n a))
          (fun n a => m ((c.tc : Thread nD τ).loc main_arg4) (ix3 o n a)) (fun n => m ((c.tc : Thread nD τ).loc main_arg5) (ix2 o n)) r := by
    unfold yOf
    refine Finset.sum_congr rfl fun r _ => congrArg₂ (fun x y : EReal => x * y) ?_ ?_
    · refine (congrFun e4 _).trans ?_
      exact congr (congr (congrArg qprod (rowE m c b s _ (by show b.val * 4096 + s.val = _; omega))) (gainE m c)) rfl
    · refine congr (congr (congr (congr (congrArg wcol ?_) ?_) ?_) ?_) rfl
      · exact funext fun n => funext fun a => E3_v3 m c n a o
      · exact funext fun n => funext fun a => E3_v4 m c n a o
      · exact funext fun n => funext fun a => E3_v5 m c n a o
      · exact funext fun n => E3_v6 m c n o
  exact (congrFun e _).trans ((e2 _).trans ((congrFun e3 _).trans e5))

end Cert.KernelIdeal.Whole
-- ==== Proof.RefArith.lean ====
/- The reference's arithmetic of one entry: the three-bit code taken from words, and the eight-bit code that goes through
   a word; and a weight's place in its column. -/
module

public import proofs.«01_k».proof.Proof.QuantTrip
public import proofs.«01_k».proof.Proof.MatmulValue
public import Idealize.ShloMosaic.Lib.Pipeline.ValueKit

@[expose] public section

set_option maxRecDepth 16384

noncomputable section

namespace Cert.ReferenceIdeal.RefValue

open Cert.KernelIdeal.Whole (rinv xnorm amax qscale qval qcode qprod sum_blocks wcol swd)
open Cert.KernelIdeal.Decode (code)
open Idealize.ShloMosaic Idealize.ShloMosaic.TcCoe Idealize.ShloMosaic.Tactic
open Idealize.ShloMosaic.ValueKit

/-- A shift to the right by a literal number of places below thirty-two. -/
theorem shrsi_ofNat (u : ArithUnit) (x : BitVec 32) (k : ℕ) (hk : k < 32) : IntOp.shrsi u x (BitVec.ofNat 32 k) = x.sshiftRight k := by
  have e : (BitVec.ofNat 32 k).toNat = k := by simp; omega
  have h : IntOp.shrsi u x (BitVec.ofNat 32 k) = x.sshiftRight (BitVec.ofNat 32 k).toNat := if_pos (by rw [e]; exact hk)
  rw [h, e]

/-- The two low bits of a code, taken from the byte widened to a word. -/
theorem low32 : ∀ v : BitVec 8, ∀ j : Fin 4, ((v.setWidth 32).sshiftRight (2 * j.val)) &&& 3#32 = BitVec.ofNat 32 ((v >>> (2 * j.val)) &&& 3#8).toNat := by
  decide +kernel

/-- The high bit of a code, the same. -/
theorem high32 : ∀ v : BitVec 8, ∀ t : Fin 8, ((v.setWidth 32).sshiftRight t.val) &&& 1#32 = BitVec.ofNat 32 ((v >>> t.val) &&& 1#8).toNat := by
  decide +kernel

/-- Low bits plus four times the high bit minus four, in words. -/
theorem code32 : ∀ a : Fin 4, ∀ b : Fin 2, (BitVec.ofNat 32 a.val + 4#32 * BitVec.ofNat 32 b.val - 4#32).toInt = (a.val : ℤ) + 4 * (b.val : ℤ) - 4 := by decide

/-- The reference's three-bit code is `code`. -/
theorem ref_code (v h : BitVec 8) (j : Fin 4) (t : Fin 8) :
    (IntOp.subi (IntOp.addi (IntOp.andi (IntOp.shrsi .host (v.setWidth 32) (BitVec.ofNat 32 (2 * j.val))) 3#32)
      (IntOp.muli 4#32 (IntOp.andi (IntOp.shrsi .host (h.setWidth 32) (BitVec.ofNat 32 t.val)) 1#32))) 4#32).toInt = code v h j.val t.val := by
  rw [shrsi_ofNat _ _ _ (by omega), shrsi_ofNat _ _ _ (by omega)]
  show ((((v.setWidth 32).sshiftRight (2 * j.val)) &&& 3#32) + 4#32 * (((h.setWidth 32).sshiftRight t.val) &&& 1#32) - 4#32).toInt = _
  rw [low32, high32]
  exact code32 ⟨_, Cert.KernelIdeal.Decode.and3_lt _⟩ ⟨_, Cert.KernelIdeal.Decode.and1_lt _⟩

/-! ## The quotients are small integers -/

/-- The printed constant 127. -/
theorem ofBits_127 : Ideal.ofBits FTy.f32 1123942400#32 = (((127 : ℝ)) : EReal) := by
  simp [Ideal.ofBits, Ideal.ieee]
  rw [← EReal.coe_mul]; congr 1; norm_num

/-- The printed constant -127. -/
theorem ofBits_neg127 : Ideal.ofBits FTy.f32 3271426048#32 = (((-127 : ℝ)) : EReal) := by
  simp [Ideal.ofBits, Ideal.ieee]
  rw [← EReal.coe_mul]; congr 1; norm_num

/-- A rounded and clipped number is an integer from -127 to 127. -/
theorem clip_int (e : EReal) : ∃ z : ℤ, -127 ≤ z ∧ z ≤ 127 ∧
    min (Ideal.ofBits FTy.f32 1123942400#32) (max (Ideal.ofBits FTy.f32 3271426048#32) (Ideal.liftRound Ideal.roundHalfEven e)) = ((z : ℝ) : EReal) := by
  rw [ofBits_127, ofBits_neg127]
  induction e using EReal.rec with
  | bot =>
    refine ⟨-127, le_refl _, by decide, ?_⟩
    rw [Ideal.liftRound_bot, max_eq_left bot_le, min_eq_right (EReal.coe_le_coe_iff.2 (by norm_num))]
    push_cast; rfl
  | top =>
    refine ⟨127, by decide, le_refl _, ?_⟩
    rw [Ideal.liftRound_top, max_eq_right le_top, min_eq_left le_top]
    push_cast; rfl
  | coe r =>
    refine ⟨min 127 (max (-127) (Ideal.roundHalfEven r)), by omega, by omega, ?_⟩
    rw [Ideal.liftRound_coe, ← EReal.coe_strictMono.monotone.map_max, ← EReal.coe_strictMono.monotone.map_min]
    push_cast; rfl

/-- The conversion of such an integer to a signed integer of eight or more bits is the integer. -/
theorem fptosi_int (w : ℕ) (hw : 8 ≤ w) (z : ℤ) (h1 : -127 ≤ z) (h2 : z ≤ 127) :
    FloatOps.fptosi (F := Ideal) (φ := .f32) w (((z : ℝ) : EReal)) = BitVec.ofInt w z := by
  show BitVec.ofInt w (Ideal.toIntClamped (-(2 ^ (w - 1) : Nat)) ((2 ^ (w - 1) : Nat) - 1) ((z : ℝ) : EReal)) = _
  have h : (128 : ℕ) ≤ 2 ^ (w - 1) := le_trans (by norm_num) (Nat.pow_le_pow_right (by decide : 0 < 2) (show 7 ≤ w - 1 by omega))
  rw [Ideal.toIntClamped_coe, Int.floor_intCast, Int.ceil_intCast, ite_self]
  congr 1
  omega

/-- Such an integer kept in eight bits, widened and read as a number, is the integer. -/
theorem back_int : ∀ z : Fin 255, (BitVec.signExtend 32 (BitVec.setWidth 8 (BitVec.ofInt 32 ((z.val : ℤ) - 127)))).toInt = (z.val : ℤ) - 127
    ∧ BitVec.setWidth 8 (BitVec.ofInt 32 ((z.val : ℤ) - 127)) = BitVec.ofInt 8 ((z.val : ℤ) - 127) := by
  decide +kernel

/-- The reference's conversion through a word gives the kernel's code. -/
theorem code_trunc (x g : Fin 7168 → EReal) (k : Fin 7168) :
    BitVec.setWidth 8 (FloatOps.fptosi (F := Ideal) (φ := .f32) 32 (qval x g k)) = qcode x g k := by
  obtain ⟨z, h1, h2, e⟩ := clip_int (Ideal.div (xnorm x g k) (qscale x g ⟨k.val / 256, by omega⟩))
  have e' : qval x g k = ((z : ℝ) : EReal) := e
  unfold qcode
  rw [e', fptosi_int 32 (by decide) z h1 h2, fptosi_int 8 (le_refl _) z h1 h2]
  have h := (back_int ⟨(z + 127).toNat, by omega⟩).2
  rw [show (((⟨(z + 127).toNat, by omega⟩ : Fin 255).val : ℤ) - 127) = z by show ((z + 127).toNat : ℤ) - 127 = z; omega] at h
  exact h

/-- The reference's code, widened and read as a number, is the rounded and clipped quotient. -/
theorem code_back (x g : Fin 7168 → EReal) (k : Fin 7168) :
    (((BitVec.signExtend 32 (BitVec.setWidth 8 (FloatOps.fptosi (F := Ideal) (φ := .f32) 32 (qval x g k)))).toInt : ℝ) : EReal) = qval x g k := by
  obtain ⟨z, h1, h2, e⟩ := clip_int (Ideal.div (xnorm x g k) (qscale x g ⟨k.val / 256, by omega⟩))
  have e' : qval x g k = ((z : ℝ) : EReal) := e
  rw [e', fptosi_int 32 (by decide) z h1 h2]
  have h := (back_int ⟨(z + 127).toNat, by omega⟩).1
  rw [show (((⟨(z + 127).toNat, by omega⟩ : Fin 255).val : ℤ) - 127) = z by show ((z + 127).toNat : ℤ) - 127 = z; omega] at h
  rw [h]

/-- A column's weight, by block, half, position and lane. -/
theorem wcol_apply (q : Fin 28 → Fin 64 → BitVec 8) (hm : Fin 28 → Fin 32 → BitVec 8) (sc : Fin 28 → Fin 12 → BitVec 8) (d : Fin 28 → EReal) (n : Fin 28) (h : Fin 2) (j : Fin 4) (l : Fin 32) :
    wcol q hm sc d ⟨256 * n.val + 128 * h.val + 32 * j.val + l.val, by omega⟩
      = ((code (q n ⟨32 * h.val + l.val, by omega⟩) (hm n l) j.val (4 * h.val + j.val) : ℝ) : EReal)
        * (d n * (((swd (sc n) ⟨8 * h.val + 2 * j.val + l.val / 16, by omega⟩).toInt : ℝ) : EReal)) := by
  have e1 : ∀ p, (⟨(256 * n.val + 128 * h.val + 32 * j.val + l.val) / 256, p⟩ : Fin 28) = n := fun p => Fin.ext (by show (256 * n.val + 128 * h.val + 32 * j.val + l.val) / 256 = n.val; omega)
  have e2 : ∀ p, (⟨32 * ((256 * n.val + 128 * h.val + 32 * j.val + l.val) % 256 / 128) + (256 * n.val + 128 * h.val + 32 * j.val + l.val) % 32, p⟩ : Fin 64) = ⟨32 * h.val + l.val, by omega⟩ := fun p => Fin.ext (by show 32 * ((256 * n.val + 128 * h.val + 32 * j.val + l.val) % 256 / 128) + (256 * n.val + 128 * h.val + 32 * j.val + l.val) % 32 = 32 * h.val + l.val; omega)
  have e3 : ∀ p, (⟨(256 * n.val + 128 * h.val + 32 * j.val + l.val) % 32, p⟩ : Fin 32) = l := fun p => Fin.ext (by show (256 * n.val + 128 * h.val + 32 * j.val + l.val) % 32 = l.val; omega)
  have e4 : (256 * n.val + 128 * h.val + 32 * j.val + l.val) % 128 / 32 = j.val := by omega
  have e5 : (256 * n.val + 128 * h.val + 32 * j.val + l.val) % 256 / 32 = 4 * h.val + j.val := by omega
  have e6 : ∀ p, (⟨(256 * n.val + 128 * h.val + 32 * j.val + l.val) % 256 / 16, p⟩ : Fin 16) = ⟨8 * h.val + 2 * j.val + l.val / 16, by omega⟩ := fun p => Fin.ext (by show (256 * n.val + 128 * h.val + 32 * j.val + l.val) % 256 / 16 = 8 * h.val + 2 * j.val + l.val / 16; omega)
  unfold wcol
  simp only [e1, e2, e3, e4, e5, e6]

end Cert.ReferenceIdeal.RefValue
-- ==== Proof.RefShapes.lean ====
/- The reference's array operations read at an index, each for arbitrary operands: the codes, the products of codes and
   scales, and one of the eight products of matrices. -/
module

public import proofs.«01_k».proof.Proof.Gen.ReferenceIdeal
public import Idealize.ShloMosaic.Lib.Pipeline.ValueKit

@[expose] public section

set_option maxRecDepth 16384

noncomputable section

namespace Cert.ReferenceIdeal.RefValue

open Cert.ReferenceIdeal.Gen
open Idealize.ShloMosaic Idealize.ShloMosaic.TcCoe Idealize.ShloMosaic.Tactic
open Idealize.ShloMosaic.ValueKit

/-- The rounded and clipped quotients of blocks `x` by scales `y`. -/
def quot (x : FVec Ideal S3x4096x28x256 .f32) (y : FVec Ideal S3x4096x28 .f32) : FVec Ideal S3x4096x28x256 .f32 :=
  minimumf (broadcastInDim S3x4096x28x256 ![] bcast_S_S3x4096x28x256 (id (constant S_ .f32 0x42FE0000#32))) (maximumf (broadcastInDim S3x4096x28x256 ![] bcast_S_S3x4096x28x256 (id (constant S_ .f32 0xC2FE0000#32))) (Host.roundeven (Host.divf x (broadcastInDim S3x4096x28x256 ![0, 1, 2, 3] bcast_S3x4096x28x1_S3x4096x28x256_0_1_2_3 (broadcastInDim S3x4096x28x1 ![0, 1, 2] bcast_S3x4096x28_S3x4096x28x1_0_1_2 y)))))

theorem div_apply (x : FVec Ideal S3x4096x28x256 .f32) (y : FVec Ideal S3x4096x28 .f32) (b : Fin 3) (s : Fin 4096) (n : Fin 28) (l : Fin 256) :
    (Host.roundeven (Host.divf x (broadcastInDim S3x4096x28x256 ![0, 1, 2, 3] bcast_S3x4096x28x1_S3x4096x28x256_0_1_2_3 (broadcastInDim S3x4096x28x1 ![0, 1, 2] bcast_S3x4096x28_S3x4096x28x1_0_1_2 y))) : FVec Ideal S3x4096x28x256 .f32) (ix4 b s n l)
      = Ideal.liftRound Ideal.roundHalfEven (Ideal.div (x (ix4 b s n l)) (y (ix3 b s n))) := by pointwise []

theorem quot_apply (x : FVec Ideal S3x4096x28x256 .f32) (y : FVec Ideal S3x4096x28 .f32) (b : Fin 3) (s : Fin 4096) (n : Fin 28) (l : Fin 256) :
    quot x y (ix4 b s n l) = min (Ideal.ofBits FTy.f32 1123942400#32) (max (Ideal.ofBits FTy.f32 3271426048#32)
      (Ideal.liftRound Ideal.roundHalfEven (Ideal.div (x (ix4 b s n l)) (y (ix3 b s n))))) := by
  rw [← div_apply]
  rfl

/-- The codes in row layout, read at a column. -/
theorem codes_apply (C : IVec S3x4096x28x256 8) (b : Fin 3) (s : Fin 4096) (r : Fin 7168) :
    shapeCast S3x4096x7168 C shapeCasts_S3x4096x28x256_S3x4096x7168 (ix3 b s r) = C (ix4 b s ⟨r.val / 256, by omega⟩ ⟨r.val % 256, by omega⟩) := by
  pointwise []

/-- Blocks put into rows and taken apart again are the blocks. -/
theorem cast_back (C : IVec S3x4096x28x256 8) :
    shapeCast S3x4096x28x256 (shapeCast S3x4096x7168 C shapeCasts_S3x4096x28x256_S3x4096x7168) shapeCasts_S3x4096x7168_S3x4096x28x256 = C := by
  funext i
  exact congrArg C (by simp [Shape.reshapeEquiv])

/-- Products of codes and scales, in the layout the products of matrices take. -/
theorem prod_apply (C : IVec S3x4096x28x256 8) (y : FVec Ideal S3x4096x28 .f32) (b : Fin 3) (s : Fin 4096) (n : Fin 28) (h : Fin 2) (j : Fin 4) (l : Fin 32) :
    (shapeCast S3x4096x28x2x4x32 (mulf (sitofp .bf16 (extsi 32 C natLt_8_32)) (broadcastInDim S3x4096x28x256 ![0, 1, 2, 3] bcast_S3x4096x28x1_S3x4096x28x256_0_1_2_3 (broadcastInDim S3x4096x28x1 ![0, 1, 2] bcast_S3x4096x28_S3x4096x28x1_0_1_2 (truncf .bf16 y bitsLt_bf16_f32)))) shapeCasts_S3x4096x28x256_S3x4096x28x2x4x32 : FVec Ideal S3x4096x28x2x4x32 .bf16) (ix6 b s n h j l)
      = (((BitVec.signExtend 32 (C (ix4 b s n ⟨128 * h.val + 32 * j.val + l.val, by omega⟩))).toInt : ℝ) : EReal) * y (ix3 b s n) := by
  pointwise []
  have e : ∀ p, (⟨h.val * 128 + j.val * 32 + l.val, p⟩ : Fin 256) = ⟨128 * h.val + 32 * j.val + l.val, by omega⟩ := fun p => Fin.ext (by show h.val * 128 + j.val * 32 + l.val = 128 * h.val + 32 * j.val + l.val; omega)
  rw [e]
  rfl

/-- One product of matrices. -/
theorem dot_apply (X : FVec Ideal S3x4096x28x32 .bf16) (W : FVec Ideal S18432x28x32 .bf16) (b : Fin 3) (s : Fin 4096) (o : Fin 18432) :
    (Host.dotGeneral dot_S3x4096x28x32_S18432x28x32_S3x4096x18432_32_21_01_0_n_n none X W : FVec Ideal S3x4096x18432 .f32) (ix3 b s o)
      = ∑ n : Fin 28, ∑ l : Fin 32, X (ix4 b s n l) * W (ix3 o n l) := by
  pointwise []
  exact Finset.sum_comm

/-- One slice of the products. -/
theorem sliceX_apply (X : FVec Ideal S3x4096x28x2x4x32 .bf16) (h j : ℕ) (hh : h < 2) (hj : j < 4) (hX : S3x4096x28x2x4x32.Slices ![0, 0, 0, h, j, 0] S3x4096x28x1x1x32) (b : Fin 3) (s : Fin 4096) (n : Fin 28) (l : Fin 32) :
    shapeCast S3x4096x28x32 (extractStridedSlice S3x4096x28x1x1x32 ![0, 0, 0, h, j, 0] X hX) shapeCasts_S3x4096x28x1x1x32_S3x4096x28x32 (ix4 b s n l) = X (ix6 b s n ⟨h, hh⟩ ⟨j, hj⟩ l) := by
  pointwise []

/-- One slice of the low bits. -/
theorem sliceQ_apply (Q : IVec S18432x28x2x32 32) (h : ℕ) (hh : h < 2) (hQ : S18432x28x2x32.Slices ![0, 0, h, 0] S18432x28x1x32) (o : Fin 18432) (n : Fin 28) (l : Fin 32) :
    shapeCast S18432x28x32 (extractStridedSlice S18432x28x1x32 ![0, 0, h, 0] Q hQ) shapeCasts_S18432x28x1x32_S18432x28x32 (ix3 o n l) = Q (ix4 o n ⟨h, hh⟩ l) := by
  pointwise []

/-- The low bits by half and lane. -/
theorem halves_apply (Q : IVec S18432x28x64 32) (h : Fin 2) (o : Fin 18432) (n : Fin 28) (l : Fin 32) :
    shapeCast S18432x28x2x32 Q shapeCasts_S18432x28x64_S18432x28x2x32 (ix4 o n h l) = Q (ix3 o n ⟨32 * h.val + l.val, by omega⟩) := by
  pointwise []
  congr 2
  exact Fin.ext (by show h.val * 32 + l.val = 32 * h.val + l.val; omega)

/-- The two scales of one slice, repeated. -/
theorem sliceG_apply (G : FVec Ideal S18432x28x16 .bf16) (i : ℕ) (hi : i + 2 ≤ 16) (hG : S18432x28x16.Slices ![0, 0, i] S18432x28x2) (o : Fin 18432) (n : Fin 28) (l : Fin 32) :
    shapeCast S18432x28x32 (broadcastInDim S18432x28x2x16 ![0, 1, 2] bcast_S18432x28x2_S18432x28x2x16_0_1_2 (extractStridedSlice S18432x28x2 ![0, 0, i] G hG)) shapeCasts_S18432x28x2x16_S18432x28x32 (ix3 o n l) = G (ix3 o n ⟨i + l.val / 16, by omega⟩) := by
  pointwise []

/-- The three-bit codes of one slice, in words. -/
theorem code_apply (q h : IVec S18432x28x32 32) (a t : BitVec 32) (i : S18432x28x32.Idx) :
    subi (addi (andi (Host.shrsi q (broadcastInDim S18432x28x32 ![] bcast_S_S18432x28x32 (constantI S_ 32 a))) (broadcastInDim S18432x28x32 ![] bcast_S_S18432x28x32 (constantI S_ 32 3#32))) (muli (broadcastInDim S18432x28x32 ![] bcast_S_S18432x28x32 (constantI S_ 32 4#32)) (andi (Host.shrsi h (broadcastInDim S18432x28x32 ![] bcast_S_S18432x28x32 (constantI S_ 32 t))) (broadcastInDim S18432x28x32 ![] bcast_S_S18432x28x32 (constantI S_ 32 1#32))))) (broadcastInDim S18432x28x32 ![] bcast_S_S18432x28x32 (constantI S_ 32 4#32)) i
      = IntOp.subi (IntOp.addi (IntOp.andi (IntOp.shrsi .host (q i) a) 3#32) (IntOp.muli 4#32 (IntOp.andi (IntOp.shrsi .host (h i) t) 1#32))) 4#32 := rfl

/-- One of the eight products of matrices, from the arrays it is cut out of. -/
def part (X : FVec Ideal S3x4096x28x2x4x32 .bf16) (Q : IVec S18432x28x2x32 32) (H : IVec S18432x28x32 32) (G : FVec Ideal S18432x28x16 .bf16)
    (h j i : ℕ) (a t : BitVec 32)
    (hX : S3x4096x28x2x4x32.Slices ![0, 0, 0, h, j, 0] S3x4096x28x1x1x32) (hQ : S18432x28x2x32.Slices ![0, 0, h, 0] S18432x28x1x32) (hG : S18432x28x16.Slices ![0, 0, i] S18432x28x2) : FVec Ideal S3x4096x18432 .f32 :=
  Host.dotGeneral dot_S3x4096x28x32_S18432x28x32_S3x4096x18432_32_21_01_0_n_n none (shapeCast _ (extractStridedSlice S3x4096x28x1x1x32 ![0, 0, 0, h, j, 0] X hX) shapeCasts_S3x4096x28x1x1x32_S3x4096x28x32) (mulf (sitofp .bf16 (subi (addi (andi (Host.shrsi (shapeCast _ (extractStridedSlice S18432x28x1x32 ![0, 0, h, 0] Q hQ) shapeCasts_S18432x28x1x32_S18432x28x32) (broadcastInDim S18432x28x32 ![] bcast_S_S18432x28x32 (constantI S_ 32 a))) (broadcastInDim S18432x28x32 ![] bcast_S_S18432x28x32 (constantI S_ 32 3#32))) (muli (broadcastInDim S18432x28x32 ![] bcast_S_S18432x28x32 (constantI S_ 32 4#32)) (andi (Host.shrsi H (broadcastInDim S18432x28x32 ![] bcast_S_S18432x28x32 (constantI S_ 32 t))) (broadcastInDim S18432x28x32 ![] bcast_S_S18432x28x32 (constantI S_ 32 1#32))))) (broadcastInDim S18432x28x32 ![] bcast_S_S18432x28x32 (constantI S_ 32 4#32)))) (shapeCast _ (broadcastInDim S18432x28x2x16 ![0, 1, 2] bcast_S18432x28x2_S18432x28x2x16_0_1_2 (extractStridedSlice S18432x28x2 ![0, 0, i] G hG)) shapeCasts_S18432x28x2x16_S18432x28x32))

/-- The same at an index. -/
theorem part_apply (X : FVec Ideal S3x4096x28x2x4x32 .bf16) (Q : IVec S18432x28x2x32 32) (H : IVec S18432x28x32 32) (G : FVec Ideal S18432x28x16 .bf16)
    (h j : ℕ) (hh : h < 2) (hj : j < 4) (i : ℕ) (hi : i + 2 ≤ 16) (a t : BitVec 32)
    (hX : S3x4096x28x2x4x32.Slices ![0, 0, 0, h, j, 0] S3x4096x28x1x1x32) (hQ : S18432x28x2x32.Slices ![0, 0, h, 0] S18432x28x1x32) (hG : S18432x28x16.Slices ![0, 0, i] S18432x28x2)
    (b : Fin 3) (s : Fin 4096) (o : Fin 18432) :
    part X Q H G h j i a t hX hQ hG (ix3 b s o)
      = ∑ n : Fin 28, ∑ l : Fin 32, X (ix6 b s n ⟨h, hh⟩ ⟨j, hj⟩ l) *
          ((((IntOp.subi (IntOp.addi (IntOp.andi (IntOp.shrsi .host (Q (ix4 o n ⟨h, hh⟩ l)) a) 3#32)
              (IntOp.muli 4#32 (IntOp.andi (IntOp.shrsi .host (H (ix3 o n l)) t) 1#32))) 4#32).toInt : ℝ) : EReal) * G (ix3 o n ⟨i + l.val / 16, by omega⟩)) := by
  unfold part
  refine (dot_apply _ _ b s o).trans (Finset.sum_congr rfl fun n _ => Finset.sum_congr rfl fun l _ => ?_)
  refine congrArg₂ (· * ·) (sliceX_apply X h j hh hj hX b s n l) (congrArg₂ (· * ·) ?_ (sliceG_apply G i hi hG o n l))
  refine congrArg (fun w : BitVec 32 => ((w.toInt : ℝ) : EReal)) ((code_apply _ _ _ _ _).trans ?_)
  rw [sliceQ_apply Q h hh]

/-- Arrays added in order, at an index. -/
theorem add4 (x a b c d : FVec Ideal S3x4096x18432 .f32) (i : S3x4096x18432.Idx) :
    (addf (addf (addf (addf x a) b) c) d : FVec Ideal S3x4096x18432 .f32) i = (((x i : EReal) + a i) + b i) + c i + d i := rfl
theorem add3 (a b c d : FVec Ideal S3x4096x18432 .f32) (i : S3x4096x18432.Idx) :
    (addf (addf (addf a b) c) d : FVec Ideal S3x4096x18432 .f32) i = (((a i : EReal) + b i) + c i) + d i := rfl

/-- The rows' columns, by block, half, position and lane. -/
theorem sum_parts (f : Fin 7168 → EReal) :
    (∑ h : Fin 2, ∑ j : Fin 4, ∑ n : Fin 28, ∑ l : Fin 32, f ⟨256 * n.val + 128 * h.val + 32 * j.val + l.val, by omega⟩) = ∑ k, f k := by
  have e : ∀ h : Fin 2, (∑ j : Fin 4, ∑ n : Fin 28, ∑ l : Fin 32, f ⟨256 * n.val + 128 * h.val + 32 * j.val + l.val, by omega⟩)
      = ∑ n : Fin 28, ∑ j : Fin 4, ∑ l : Fin 32, f ⟨256 * n.val + 128 * h.val + 32 * j.val + l.val, by omega⟩ := fun h => Finset.sum_comm
  simp only [e]
  rw [Finset.sum_comm]
  simp only [← Fintype.sum_prod_type']
  refine Fintype.sum_equiv ⟨fun p => (⟨256 * p.1.val + 128 * p.2.1.val + 32 * p.2.2.1.val + p.2.2.2.val, by omega⟩ : Fin 7168),
    fun k => (⟨k.val / 256, by omega⟩, ⟨k.val % 256 / 128, by omega⟩, ⟨k.val % 128 / 32, by omega⟩, ⟨k.val % 32, by omega⟩), fun p => ?_, fun k => ?_⟩ _ _ fun p => rfl
  · obtain ⟨n, h, j, l⟩ := p
    simp only [Prod.mk.injEq, Fin.ext_iff]
    omega
  · exact Fin.ext (by simp only []; omega)

end Cert.ReferenceIdeal.RefValue
-- ==== Proof.RefValue.lean ====
/- The reference's three results at an index. -/
module

public import proofs.«01_k».proof.Proof.RefArith
public import proofs.«01_k».proof.Proof.RefShapes
public import proofs.«01_k».proof.Proof.Gen.ReferenceIdeal.Run
public import Idealize.ShloMosaic.Lib.Pipeline.ValueKit

@[expose] public section

set_option maxRecDepth 16384

noncomputable section

namespace Cert.ReferenceIdeal.RefValue

open Cert.ReferenceIdeal.Gen Cert.ReferenceIdeal.Value
open Cert.KernelIdeal.Whole (rinv xnorm amax qscale qval qcode qprod sum_blocks wcol swd)
open Cert.KernelIdeal.Decode (code)
open Idealize.ShloMosaic Idealize.ShloMosaic.TcCoe Idealize.ShloMosaic.Tactic
open Idealize.ShloMosaic.ValueKit

/-! ## The reference's arrays at an index -/

variable (V0 : Valuation τ sig (Elt Ideal))

/-- The reference's token row. -/
def row (b : Fin 3) (s : Fin 4096) (j : Fin 7168) : EReal := V0 (Proc.devRef .tc main_arg0) (ix3 b s j)

/-- The reference's gain. -/
def gain (j : Fin 7168) : EReal := V0 (Proc.devRef .tc main_arg1) (ix1 j)

/-- The normalised rows. -/
theorem v14_apply (b : Fin 3) (s : Fin 4096) (n : Fin 28) (l : Fin 256) :
    ((res_main_v14 (F := Ideal) V0 : FVec Ideal S3x4096x28x256 .f32) (ix4 b s n l) : EReal) = xnorm (row V0 b s) (gain V0) ⟨256 * n.val + l.val, by omega⟩ := by
  pointwise [res_main_v14, res_main_v0]
  unfold xnorm rinv row gain
  have e : ∀ h, (⟨n.val * 256 + l.val, h⟩ : Fin 7168) = ⟨256 * n.val + l.val, by omega⟩ := fun h => Fin.ext (by show n.val * 256 + l.val = 256 * n.val + l.val; omega)
  simp only [e]

/-- The indices of one block of one row. -/
theorem fibre (b : Fin 3) (s : Fin 4096) (n : Fin 28) (i : S3x4096x28x256.Idx) :
    reducesTo_S3x4096x28x256_S3x4096x28_d3.drop i = ix3 b s n ↔ ∃ k : Fin 256, ix4 b s n k = i := by
  constructor
  · intro e
    refine ⟨i 3, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
  · rintro ⟨k, rfl⟩
    funext c
    match c with
    | ⟨0, _⟩ => rfl
    | ⟨1, _⟩ => rfl
    | ⟨2, _⟩ => rfl

/-- The largest magnitude of each block, over the block's lanes. -/
theorem v16_fold (b : Fin 3) (s : Fin 4096) (n : Fin 28) (x : FVec Ideal S3x4096x28x256 .f32) (z : FVec Ideal S_ .f32) :
    Host.reduce FloatOps.maximumf x z reducesTo_S3x4096x28x256_S3x4096x28_d3 h_S_ (ix3 b s n)
      = Finset.fold (FloatOps.maximumf (F := Ideal) (φ := .f32)) (z (Shape.Idx.first h_S_)) (fun k : Fin 256 => x (ix4 b s n k)) Finset.univ :=
  (Host.reduce_eq_fold _ _ _ _ _ _).trans
    (Finset.fold_filter_eq_fold_of_fiber _ _ (fun k : Fin 256 => ix4 b s n k) (fun _ _ e => congrFun e 3) (fibre b s n) _ _)

/-- The largest magnitude of each block. -/
theorem v16_apply (b : Fin 3) (s : Fin 4096) (n : Fin 28) :
    ((res_main_v16 (F := Ideal) V0 : FVec Ideal S3x4096x28 .f32) (ix3 b s n) : EReal) = amax (row V0 b s) (gain V0) n := by
  refine (v16_fold b s n _ _).trans ?_
  have e : (fun k : Fin 256 => (Host.absf (res_main_v14 (F := Ideal) V0 : FVec Ideal S3x4096x28x256 .f32) : FVec Ideal S3x4096x28x256 .f32) (ix4 b s n k))
      = fun k : Fin 256 => FloatOps.absf (F := Ideal) (φ := .f32) (xnorm (row V0 b s) (gain V0) ⟨256 * n.val + k.val, by omega⟩) :=
    funext fun k => congrArg (FloatOps.absf (F := Ideal) (φ := .f32)) (v14_apply V0 b s n k)
  rw [e]
  rfl

/-- A block's scale from its largest magnitude. -/
def pick (a z : EReal) : EReal := if a = 0 then z else Ideal.div a (Ideal.ofBits FTy.f32 1123942400#32)

theorem one_apply : (id (constant S_ FTy.f32 1065353216#32 : FVec Ideal S_ .f32)) ix0 = (1 : EReal) := Ideal.ofBits_one_f32

/-- The scales of blocks with largest magnitudes `x`. -/
def scales (x : FVec Ideal S3x4096x28 .f32) : FVec Ideal S3x4096x28 .f32 :=
  select (cmpf .oeq x (broadcastInDim S3x4096x28 ![] bcast_S_S3x4096x28 (constant S_ .f32 0x00000000#32))) (broadcastInDim S3x4096x28 ![] bcast_S_S3x4096x28 (id (constant S_ .f32 0x3F800000#32))) (Host.divf x (broadcastInDim S3x4096x28 ![] bcast_S_S3x4096x28 (constant S_ .f32 0x42FE0000#32)))

theorem scales_apply (x : FVec Ideal S3x4096x28 .f32) (b : Fin 3) (s : Fin 4096) (n : Fin 28) : scales x (ix3 b s n) = pick (x (ix3 b s n)) 1 := by
  have e : scales x (ix3 b s n) = pick (x (ix3 b s n)) ((id (constant S_ FTy.f32 1065353216#32 : FVec Ideal S_ .f32)) ix0) := by
    pointwise [scales]
    unfold pick
    congr
  rw [e, one_apply]

theorem v21_scales : (res_main_v21 (F := Ideal) V0 : FVec Ideal S3x4096x28 .f32) = scales (res_main_v16 (F := Ideal) V0) := by
  unfold res_main_v21 scales
  rfl

theorem pick_eq (x g : Fin 7168 → EReal) (n : Fin 28) : pick (amax x g n) 1 = qscale x g n := by
  unfold pick qscale
  rfl

/-- The block scales. -/
theorem v21_apply (b : Fin 3) (s : Fin 4096) (n : Fin 28) :
    ((res_main_v21 (F := Ideal) V0 : FVec Ideal S3x4096x28 .f32) (ix3 b s n) : EReal) = qscale (row V0 b s) (gain V0) n := by
  rw [v21_scales, scales_apply, v16_apply, pick_eq]

/-- The rounded and clipped quotients. -/
theorem quot_row (b : Fin 3) (s : Fin 4096) (n : Fin 28) (l : Fin 256) (r : Fin 7168) (hr : r.val = 256 * n.val + l.val) :
    quot (res_main_v14 (F := Ideal) V0) (res_main_v21 (F := Ideal) V0) (ix4 b s n l) = qval (row V0 b s) (gain V0) r := by
  have hk : 256 * n.val + l.val < 7168 := by clear hr; omega
  obtain rfl : r = ⟨256 * n.val + l.val, hk⟩ := Fin.ext hr
  refine (quot_apply _ _ b s n l).trans ?_
  rw [v14_apply, v21_apply]
  have e : ∀ p, (⟨(256 * n.val + l.val) / 256, p⟩ : Fin 28) = n := fun p => Fin.ext (by show (256 * n.val + l.val) / 256 = n.val; omega)
  unfold qval
  simp only [e]

/-- The codes, before they are put into rows. -/
def codes : IVec S3x4096x28x256 8 := trunci 8 (fptosi 32 (quot (res_main_v14 (F := Ideal) V0) (res_main_v21 (F := Ideal) V0))) natLt_8_32

/-- A code is the quotient converted to a word and kept in eight bits. -/
theorem codes_row (b : Fin 3) (s : Fin 4096) (n : Fin 28) (l : Fin 256) (r : Fin 7168) (hr : r.val = 256 * n.val + l.val) :
    codes V0 (ix4 b s n l) = BitVec.setWidth 8 (FloatOps.fptosi (F := Ideal) (φ := .f32) 32 (qval (row V0 b s) (gain V0) r)) := by
  rw [← quot_row V0 b s n l r hr]
  rfl

/-- The second result: the codes. -/
theorem v29_apply (b : Fin 3) (s : Fin 4096) (r : Fin 7168) :
    shapeCast S3x4096x7168 (codes V0) shapeCasts_S3x4096x28x256_S3x4096x7168 (ix3 b s r) = qcode (row V0 b s) (gain V0) r := by
  rw [codes_apply, codes_row V0 b s _ _ r (by show r.val = 256 * (r.val / 256) + r.val % 256; omega)]
  exact code_trunc _ _ _

/-- The products that the reference multiplies by the weights. -/
theorem v37_apply (b : Fin 3) (s : Fin 4096) (n : Fin 28) (h : Fin 2) (j : Fin 4) (l : Fin 32) :
    ((res_main_v37 (F := Ideal) V0 : FVec Ideal S3x4096x28x2x4x32 .bf16) (ix6 b s n h j l) : EReal)
      = qprod (row V0 b s) (gain V0) ⟨256 * n.val + 128 * h.val + 32 * j.val + l.val, by omega⟩ := by
  have e := prod_apply (codes V0) (res_main_v21 (F := Ideal) V0) b s n h j l
  rw [codes_row V0 b s n _ ⟨256 * n.val + 128 * h.val + 32 * j.val + l.val, by omega⟩ (by show 256 * n.val + 128 * h.val + 32 * j.val + l.val = 256 * n.val + (128 * h.val + 32 * j.val + l.val); omega), code_back, v21_apply] at e
  have en : ∀ p, (⟨(256 * n.val + 128 * h.val + 32 * j.val + l.val) / 256, p⟩ : Fin 28) = n := fun p => Fin.ext (by show (256 * n.val + 128 * h.val + 32 * j.val + l.val) / 256 = n.val; omega)
  unfold qprod
  simp only [en]
  refine Eq.trans ?_ e
  rw [← cast_back (codes V0)]
  unfold res_main_v37
  rfl

/-- The low bits' bytes, -/
def qb (o : Fin 18432) (n : Fin 28) (a : Fin 64) : BitVec 8 := V0 (Proc.devRef .tc main_arg3) (ix3 o n a)
/-- the high bits' bytes, -/
def hb (o : Fin 18432) (n : Fin 28) (a : Fin 32) : BitVec 8 := V0 (Proc.devRef .tc main_arg2) (ix3 o n a)
/-- the group scales' bytes, -/
def sb (o : Fin 18432) (n : Fin 28) (a : Fin 12) : BitVec 8 := V0 (Proc.devRef .tc main_arg4) (ix3 o n a)
/-- and the block scales, of one output. -/
def db (o : Fin 18432) (n : Fin 28) : EReal := V0 (Proc.devRef .tc main_arg5) (ix2 o n)

/-- The weights' scales. -/
theorem v80_apply (o : Fin 18432) (n : Fin 28) (i : Fin 16) :
    ((res_main_v80 (F := Ideal) V0 : FVec Ideal S18432x28x16 .bf16) (ix3 o n i) : EReal)
      = db V0 o n * (((swd (sb V0 o n) i).toInt : ℝ) : EReal) := by
  pointwise [res_main_v80, res_main_v48, res_main_v38]
  refine congrArg₂ (· * ·) rfl ?_
  show (((_ : BitVec 32).toInt : ℝ) : EReal) = _
  congr 3
  obtain ⟨i, hi⟩ := i
  simp only [(Cert.KernelIdeal.Whole.shr_lit _ _).1, (Cert.KernelIdeal.Whole.shr_lit _ _).2.1, (Cert.KernelIdeal.Whole.shr_lit _ _).2.2.1, (Cert.KernelIdeal.Whole.shr_lit _ _).2.2.2.1, (Cert.KernelIdeal.Whole.shr_lit _ _).2.2.2.2]
  interval_cases i <;> simp [swd, sb, IntOp.andi, IntOp.ori, IntOp.subi]

/-- A term of the first result's sum. -/
def term (b : Fin 3) (s : Fin 4096) (o : Fin 18432) (r : Fin 7168) : EReal :=
  qprod (row V0 b s) (gain V0) r * wcol (qb V0 o) (hb V0 o) (sb V0 o) (db V0 o) r

/-- The low bits' words by half and lane. -/
theorem v82_apply (o : Fin 18432) (n : Fin 28) (h : Fin 2) (l : Fin 32) :
    (res_main_v82 (F := Ideal) V0 : IVec S18432x28x2x32 32) (ix4 o n h l) = (qb V0 o n ⟨32 * h.val + l.val, by omega⟩).setWidth 32 :=
  halves_apply (extui 32 (V0 (Proc.devRef .tc main_arg3)) natLt_8_32) h o n l

/-- The high bits' words. -/
theorem v83_apply (o : Fin 18432) (n : Fin 28) (l : Fin 32) :
    (res_main_v83 (F := Ideal) V0 : IVec S18432x28x32 32) (ix3 o n l) = (hb V0 o n l).setWidth 32 := rfl

/-- One of the eight products of matrices, of the reference's arrays. -/
def partV (h j i : ℕ) (a t : BitVec 32)
    (hX : S3x4096x28x2x4x32.Slices ![0, 0, 0, h, j, 0] S3x4096x28x1x1x32) (hQ : S18432x28x2x32.Slices ![0, 0, h, 0] S18432x28x1x32) (hG : S18432x28x16.Slices ![0, 0, i] S18432x28x2) : FVec Ideal S3x4096x18432 .f32 :=
  part (res_main_v37 (F := Ideal) V0) (res_main_v82 (F := Ideal) V0) (res_main_v83 (F := Ideal) V0) (res_main_v80 (F := Ideal) V0) h j i a t hX hQ hG

/-- It is a sum of terms. -/
theorem part_eq (h j : ℕ) (hh : h < 2) (hj : j < 4) (i : ℕ) (ei : i = 8 * h + 2 * j) (a t : BitVec 32) (ea : a = BitVec.ofNat 32 (2 * j)) (et : t = BitVec.ofNat 32 (4 * h + j))
    (hX : S3x4096x28x2x4x32.Slices ![0, 0, 0, h, j, 0] S3x4096x28x1x1x32) (hQ : S18432x28x2x32.Slices ![0, 0, h, 0] S18432x28x1x32) (hG : S18432x28x16.Slices ![0, 0, i] S18432x28x2)
    (b : Fin 3) (s : Fin 4096) (o : Fin 18432) :
    partV V0 h j i a t hX hQ hG (ix3 b s o)
      = ∑ n : Fin 28, ∑ l : Fin 32, term V0 b s o ⟨256 * n.val + 128 * h + 32 * j + l.val, by omega⟩ := by
  subst ei ea et
  refine (part_apply _ _ _ _ h j hh hj _ (by omega) _ _ hX hQ hG b s o).trans
    (Finset.sum_congr rfl fun n _ => Finset.sum_congr rfl fun l _ => ?_)
  unfold term
  refine congrArg₂ (fun x y : EReal => x * y) (v37_apply V0 b s n ⟨h, hh⟩ ⟨j, hj⟩ l) ?_
  refine Eq.trans ?_ (wcol_apply (qb V0 o) (hb V0 o) (sb V0 o) (db V0 o) n ⟨h, hh⟩ ⟨j, hj⟩ l).symm
  refine congrArg₂ (fun x y : EReal => x * y) ?_ (v80_apply V0 o n _)
  rw [v82_apply, v83_apply]
  exact congrArg (fun z : ℤ => ((z : ℝ) : EReal)) (ref_code (qb V0 o n ⟨32 * h + l.val, by omega⟩) (hb V0 o n l) ⟨j, hj⟩ ⟨4 * h + j, by omega⟩)

/-- The first four products added. -/
theorem v178_parts : (res_main_v178 (F := Ideal) V0 : FVec Ideal S3x4096x18432 .f32)
    = addf (addf (addf (partV V0 0 0 0 0#32 0#32 slices_S3x4096x28x2x4x32_S3x4096x28x1x1x32_0_0_0_0_0_0 slices_S18432x28x2x32_S18432x28x1x32_0_0_0_0 slices_S18432x28x16_S18432x28x2_0_0_0)
      (partV V0 0 1 2 2#32 1#32 slices_S3x4096x28x2x4x32_S3x4096x28x1x1x32_0_0_0_0_1_0 slices_S18432x28x2x32_S18432x28x1x32_0_0_0_0 slices_S18432x28x16_S18432x28x2_0_0_2))
      (partV V0 0 2 4 4#32 2#32 slices_S3x4096x28x2x4x32_S3x4096x28x1x1x32_0_0_0_0_2_0 slices_S18432x28x2x32_S18432x28x1x32_0_0_0_0 slices_S18432x28x16_S18432x28x2_0_0_4))
      (partV V0 0 3 6 6#32 3#32 slices_S3x4096x28x2x4x32_S3x4096x28x1x1x32_0_0_0_0_3_0 slices_S18432x28x2x32_S18432x28x1x32_0_0_0_0 slices_S18432x28x16_S18432x28x2_0_0_6) := by
  unfold res_main_v178 partV part
  rfl

/-- All eight products added. -/
theorem v274_parts : (res_main_v274 (F := Ideal) V0 : FVec Ideal S3x4096x18432 .f32)
    = addf (addf (addf (addf (res_main_v178 (F := Ideal) V0) (partV V0 1 0 8 0#32 4#32 slices_S3x4096x28x2x4x32_S3x4096x28x1x1x32_0_0_0_1_0_0 slices_S18432x28x2x32_S18432x28x1x32_0_0_1_0 slices_S18432x28x16_S18432x28x2_0_0_8))
      (partV V0 1 1 10 2#32 5#32 slices_S3x4096x28x2x4x32_S3x4096x28x1x1x32_0_0_0_1_1_0 slices_S18432x28x2x32_S18432x28x1x32_0_0_1_0 slices_S18432x28x16_S18432x28x2_0_0_10))
      (partV V0 1 2 12 4#32 6#32 slices_S3x4096x28x2x4x32_S3x4096x28x1x1x32_0_0_0_1_2_0 slices_S18432x28x2x32_S18432x28x1x32_0_0_1_0 slices_S18432x28x16_S18432x28x2_0_0_12))
      (partV V0 1 3 14 6#32 7#32 slices_S3x4096x28x2x4x32_S3x4096x28x1x1x32_0_0_0_1_3_0 slices_S18432x28x2x32_S18432x28x1x32_0_0_1_0 slices_S18432x28x16_S18432x28x2_0_0_14) := by
  unfold res_main_v274 partV part
  rfl

/-- The first result: each entry is the sum over the row's columns of the product with the output's weight. -/
theorem v274_apply (b : Fin 3) (s : Fin 4096) (o : Fin 18432) :
    ((res_main_v274 (F := Ideal) V0 : FVec Ideal S3x4096x18432 .f32) (ix3 b s o) : EReal) = ∑ r, term V0 b s o r := by
  rw [← sum_parts (term V0 b s o), v274_parts, add4, v178_parts, add3]
  rw [part_eq V0 0 0 (by decide) (by decide) 0 rfl _ _ rfl rfl, part_eq V0 0 1 (by decide) (by decide) 2 rfl _ _ rfl rfl,
    part_eq V0 0 2 (by decide) (by decide) 4 rfl _ _ rfl rfl, part_eq V0 0 3 (by decide) (by decide) 6 rfl _ _ rfl rfl,
    part_eq V0 1 0 (by decide) (by decide) 8 rfl _ _ rfl rfl, part_eq V0 1 1 (by decide) (by decide) 10 rfl _ _ rfl rfl,
    part_eq V0 1 2 (by decide) (by decide) 12 rfl _ _ rfl rfl, part_eq V0 1 3 (by decide) (by decide) 14 rfl _ _ rfl rfl]
  rw [Fin.sum_univ_two, Fin.sum_univ_four, Fin.sum_univ_four]
  simp only [add_assoc]
  rfl

end Cert.ReferenceIdeal.RefValue
-- ==== Proof.Equation.lean ====
/- Kernel and reference compute the same three results over the extended reals. -/
module

public import proofs.«01_k».proof.Proof.KernelValue
public import proofs.«01_k».proof.Proof.RefValue
public import proofs.«01_k».proof.Defs

@[expose] public section

set_option maxRecDepth 16384

noncomputable section

namespace Cert.Proof.Frames

open Idealize.ShloMosaic Idealize.ShloMosaic.TcCoe Idealize.SL.Sem Idealize.ShloMosaic.StableHlo
open Idealize.ShloMosaic.ValueKit
open Cert.KernelIdeal.Whole Cert.ReferenceIdeal.RefValue

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))

include h0 in
theorem row_eq (b : Fin 3) (s : Fin 4096) : row (launchContents m' c) b s = rowM m c b s := funext fun j => congrFun h0 (ix3 b s j)
include h1 in
theorem gain_eq : gain (launchContents m' c) = gainM m c := funext fun j => congrFun h1 (ix1 j)

/-- A rank-three index is the triple of its coordinates. -/
theorem ix3_eta {a b d : ℕ} (i : (⟨3, ![a, b, d]⟩ : Shape).Idx) : i = ix3 (i 0) (i 1) (i 2) := by
  funext k
  match k with
  | ⟨0, _⟩ => rfl
  | ⟨1, _⟩ => rfl
  | ⟨2, _⟩ => rfl

include h0 h1 h2 h3 h4 h5 in
/-- The first results are equal, -/
theorem eq_y : (truncf .bf16 (Cert.ReferenceIdeal.Value.res_main_v274 (F := Ideal) (launchContents m' c) : FVec Ideal Cert.ReferenceIdeal.S3x4096x18432 .f32) Cert.ReferenceIdeal.Gen.bitsLt_bf16_f32 : FVec Ideal Cert.ReferenceIdeal.S3x4096x18432 .bf16)
    = B5 m c (Proc.devRef .tc Cert.KernelIdeal.main_v8) := by
  funext i
  obtain ⟨b, s, o, rfl⟩ : ∃ (b : Fin 3) (s : Fin 4096) (o : Fin 18432), i = ix3 b s o := ⟨i 0, i 1, i 2, ix3_eta i⟩
  have e : (∑ r : Fin 7168, term (launchContents m' c) b s o r)
      = ∑ r : Fin 7168, qprod (rowM m c b s) (gainM m c) r
        * wcol (fun n a => m ((c.tc : Thread Cert.KernelIdeal.nD Cert.KernelIdeal.τ).loc Cert.KernelIdeal.main_arg3) (ix3 o n a))
          (fun n a => m ((c.tc : Thread Cert.KernelIdeal.nD Cert.KernelIdeal.τ).loc Cert.KernelIdeal.main_arg2) (ix3 o n a))
          (fun n a => m ((c.tc : Thread Cert.KernelIdeal.nD Cert.KernelIdeal.τ).loc Cert.KernelIdeal.main_arg4) (ix3 o n a))
          (fun n => m ((c.tc : Thread Cert.KernelIdeal.nD Cert.KernelIdeal.τ).loc Cert.KernelIdeal.main_arg5) (ix2 o n)) r := by
    refine Finset.sum_congr rfl fun r _ => ?_
    unfold term
    rw [row_eq m m' c h0, gain_eq m m' c h1]
    refine congrArg₂ (fun x y : EReal => x * y) rfl (congr (congr (congr (congr (congrArg wcol ?_) ?_) ?_) ?_) rfl)
    · exact funext fun n => funext fun a => congrFun h3 (ix3 o n a)
    · exact funext fun n => funext fun a => congrFun h2 (ix3 o n a)
    · exact funext fun n => funext fun a => congrFun h4 (ix3 o n a)
    · exact funext fun n => congrFun h5 (ix2 o n)
  exact ((v274_apply (launchContents m' c) b s o).trans e).trans (B5_v8 m c b s o).symm

include h0 h1 in
/-- the codes are equal, -/
theorem eq_codes : shapeCast Cert.ReferenceIdeal.S3x4096x7168 (codes (launchContents m' c)) Cert.ReferenceIdeal.Gen.shapeCasts_S3x4096x28x256_S3x4096x7168
    = B5 m c (Proc.devRef .tc Cert.KernelIdeal.main_v9) := by
  funext i
  obtain ⟨b, s, o, rfl⟩ : ∃ (b : Fin 3) (s : Fin 4096) (o : Fin 7168), i = ix3 b s o := ⟨i 0, i 1, i 2, ix3_eta i⟩
  refine Eq.trans ?_ (B5_v9 m c b s o).symm
  refine (v29_apply (launchContents m' c) b s o).trans ?_
  rw [row_eq m m' c h0, gain_eq m m' c h1]

include h0 h1 in
/-- and the scales are equal. -/
theorem eq_scales : (Cert.ReferenceIdeal.Value.res_main_v21 (F := Ideal) (launchContents m' c) : FVec Ideal Cert.ReferenceIdeal.S3x4096x28 .f32)
    = B5 m c (Proc.devRef .tc Cert.KernelIdeal.main_v10) := by
  funext i
  obtain ⟨b, s, o, rfl⟩ : ∃ (b : Fin 3) (s : Fin 4096) (o : Fin 28), i = ix3 b s o := ⟨i 0, i 1, i 2, ix3_eta i⟩
  refine Eq.trans ?_ (B5_v10 m c b s o).symm
  refine (v21_apply (launchContents m' c) b s o).trans ?_
  rw [row_eq m m' c h0, gain_eq m m' c h1]

end

/-- From equal arguments, kernel and reference end with equal results. -/
theorem algebraic : Cert.algebraic_KernelIdeal_ReferenceIdeal := by
  intro m g m' g' _ hargs
  refine ⟨fun c => B5 m c (Proc.devRef .tc Cert.KernelIdeal.main_v8), fun c => B5 m c (Proc.devRef .tc Cert.KernelIdeal.main_v9),
    fun c => B5 m c (Proc.devRef .tc Cert.KernelIdeal.main_v10), ?_, ?_⟩
  · refine (θ_run Cert.KernelIdeal.defs _ _).mono (fun r h c => ?_) (Cert.KernelIdeal.Whole.run m g)
    have k (b : Ref Cert.KernelIdeal.sig .tc) (hb : ¬ (Proc.devRef .tc b : DevRef Cert.KernelIdeal.τ Cert.KernelIdeal.sig).isScoped) :
        r.2.mem ((c.tc : Thread Cert.KernelIdeal.nD Cert.KernelIdeal.τ).loc b) = B5 m c (Proc.devRef .tc b) := h.1 c _ (mem_uc b hb)
    have a (b : Ref Cert.KernelIdeal.sig .tc) (hb : ¬ (Proc.devRef .tc b : DevRef Cert.KernelIdeal.τ Cert.KernelIdeal.sig).isScoped) (ha : b ∈ argRefs) :
        r.2.mem ((c.tc : Thread Cert.KernelIdeal.nD Cert.KernelIdeal.τ).loc b) = m ((c.tc : Thread Cert.KernelIdeal.nD Cert.KernelIdeal.τ).loc b) := (k b hb).trans (B5_args m c b ha)
    exact ⟨k _ (by decide), k _ (by decide), k _ (by decide), a _ (by decide) (by decide), a _ (by decide) (by decide), a _ (by decide) (by decide),
      a _ (by decide) (by decide), a _ (by decide) (by decide), a _ (by decide) (by decide)⟩
  · refine (θ_run Cert.ReferenceIdeal.defs _ _).mono (fun r h c => ?_) (Cert.ReferenceIdeal.Value.run (F := Ideal) m' g')
    obtain ⟨h0, h1, h2, h3, h4, h5⟩ := hargs c
    obtain ⟨r0, r1, r2, rest⟩ := h c
    exact ⟨r0.trans (eq_y m m' c h0 h1 h2 h3 h4 h5), r1.trans (eq_codes m m' c h0 h1), r2.trans (eq_scales m m' c h0 h1), rest⟩

end Cert.Proof.Frames
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Frames.frame_p, Frames.frame_pi, Frames.frame_ri, Frames.preserves, Frames.algebraic⟩

end Cert.Proof

end
